-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![2048, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![2048, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x256 : Shape := ⟨2, ![2048, 256]⟩
abbrev S256x2048 : Shape := ⟨2, ![256, 2048]⟩
abbrev S8x256x768 : Shape := ⟨3, ![8, 256, 768]⟩
abbrev S8x256x640 : Shape := ⟨3, ![8, 256, 640]⟩
abbrev S7x256x768 : Shape := ⟨3, ![7, 256, 768]⟩
abbrev S7x256x640 : Shape := ⟨3, ![7, 256, 640]⟩
abbrev S21 : Shape := ⟨1, ![21]⟩
abbrev S_ : Shape := ⟨0, ![]⟩
abbrev S256x256 : Shape := ⟨2, ![256, 256]⟩
abbrev S256x768 : Shape := ⟨2, ![256, 768]⟩
abbrev S1x256x768 : Shape := ⟨3, ![1, 256, 768]⟩
abbrev S1 : Shape := ⟨1, ![1]⟩
abbrev S256x640 : Shape := ⟨2, ![256, 640]⟩
abbrev S1x256x640 : Shape := ⟨3, ![1, 256, 640]⟩

abbrev nBuf : Space → Nat
  | .hbm => 3
  | .vmem => 9
  | .smem => 0
  | _ => 0

abbrev bufTy : (tb : Table) → Fin (tcTables nBuf tb) → BufTy
  | .hbm, ⟨0, _⟩ => ⟨S2048x256, .f32⟩
  | .hbm, ⟨1, _⟩ => ⟨S256x2048, .f32⟩
  | .hbm, ⟨2, _⟩ => ⟨S256x2048, .f32⟩
  | .local _ .vmem, ⟨0, _⟩ => ⟨S2048x256, .f32⟩
  | .local _ .vmem, ⟨1, _⟩ => ⟨S256x2048, .f32⟩
  | .local _ .vmem, ⟨2, _⟩ => ⟨S256x2048, .f32⟩
  | .local _ .vmem, ⟨3, _⟩ => ⟨S8x256x768, .f32⟩
  | .local _ .vmem, ⟨4, _⟩ => ⟨S8x256x640, .f32⟩
  | .local _ .vmem, ⟨5, _⟩ => ⟨S8x256x640, .f32⟩
  | .local _ .vmem, ⟨6, _⟩ => ⟨S7x256x768, .f32⟩
  | .local _ .vmem, ⟨7, _⟩ => ⟨S7x256x640, .f32⟩
  | .local _ .vmem, ⟨8, _⟩ => ⟨S7x256x640, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 1 45 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_45 : BitVec 32 := 0#32
  let c4_i32_41 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v96 : BitVec 32 := Scalar.muli c4_i32_41 v19
  let c2_i32_42 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v97 : BitVec 32 := Scalar.muli c2_i32_42 v37
  let v98 : BitVec 32 := Scalar.addi v96 v97
  let c1_i32_40 : BitVec 32 := 1#32
  let c2_i32_12 : BitVec 32 := 2#32
  let v38 : BitVec 32 := Scalar.remsi v20 c2_i32_12
  let v39 : BitVec 32 := Scalar.xori v37 v38
  let v95 : BitVec 32 := Scalar.subi c1_i32_40 v39
  let v99 : BitVec 32 := Scalar.xori v95 v37
  let v100 : BitVec 32 := Scalar.addi v98 v99
  let c1_i32_44 : BitVec 32 := 1#32
  let v101 : BitVec 32 := Scalar.muli v100 c1_i32_44
  let v102 : BitVec 32 := Scalar.addi c0_i32_45 v101
  v102.toNat
def k0_dev2 (d0 : Dev nD) : Nat :=
  let c0_i32_51 : BitVec 32 := 0#32
  let c4_i32_47 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v104 : BitVec 32 := Scalar.muli c4_i32_47 v19
  let c2_i32_48 : BitVec 32 := 2#32
  let c1_i32_46 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v103 : BitVec 32 := Scalar.subi c1_i32_46 v37
  let v105 : BitVec 32 := Scalar.muli c2_i32_48 v103
  let v106 : BitVec 32 := Scalar.addi v104 v105
  let c2_i32_12 : BitVec 32 := 2#32
  let v38 : BitVec 32 := Scalar.remsi v20 c2_i32_12
  let v39 : BitVec 32 := Scalar.xori v37 v38
  let v107 : BitVec 32 := Scalar.xori v39 v103
  let v108 : BitVec 32 := Scalar.addi v106 v107
  let c1_i32_50 : BitVec 32 := 1#32
  let v109 : BitVec 32 := Scalar.muli v108 c1_i32_50
  let v110 : BitVec 32 := Scalar.addi c0_i32_51 v109
  v110.toNat
def k0_dev3 (d0 : Dev nD) : Nat :=
  let c0_i32_57 : BitVec 32 := 0#32
  let c4_i32_53 : BitVec 32 := 4#32
  let c1_i32_52 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v111 : BitVec 32 := Scalar.subi c1_i32_52 v19
  let v112 : BitVec 32 := Scalar.muli c4_i32_53 v111
  let c2_i32_54 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v113 : BitVec 32 := Scalar.muli c2_i32_54 v37
  let v114 : BitVec 32 := Scalar.addi v112 v113
  let c2_i32_12 : BitVec 32 := 2#32
  let v38 : BitVec 32 := Scalar.remsi v20 c2_i32_12
  let v39 : BitVec 32 := Scalar.xori v37 v38
  let v115 : BitVec 32 := Scalar.xori v39 v37
  let v116 : BitVec 32 := Scalar.addi v114 v115
  let c1_i32_56 : BitVec 32 := 1#32
  let v117 : BitVec 32 := Scalar.muli v116 c1_i32_56
  let v118 : BitVec 32 := Scalar.addi c0_i32_57 v117
  v118.toNat
def k0_off1 (d0 : Dev nD) : Fin 2 → Nat :=
  let c4_i32_61 : BitVec 32 := 4#32
  let c1_i32_60 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v121 : BitVec 32 := Scalar.subi c1_i32_60 v19
  let v122 : BitVec 32 := Scalar.muli c4_i32_61 v121
  let c2_i32_62 : BitVec 32 := 2#32
  let c1_i32_59 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v120 : BitVec 32 := Scalar.subi c1_i32_59 v37
  let v123 : BitVec 32 := Scalar.muli c2_i32_62 v120
  let v124 : BitVec 32 := Scalar.addi v122 v123
  let c1_i32_58 : BitVec 32 := 1#32
  let c2_i32_12 : BitVec 32 := 2#32
  let v38 : BitVec 32 := Scalar.remsi v20 c2_i32_12
  let v39 : BitVec 32 := Scalar.xori v37 v38
  let v119 : BitVec 32 := Scalar.subi c1_i32_58 v39
  let v125 : BitVec 32 := Scalar.xori v119 v120
  let v126 : BitVec 32 := Scalar.addi v124 v125
  let c256_i32 : BitVec 32 := 256#32
  let v127 : BitVec 32 := Scalar.muli v126 c256_i32
  let v128 : Index := Scalar.indexCast v127
  let c0 : Index := 0#32
  ![v128.toNat, 0]
def k0_dev4 (d0 : Dev nD) : Nat :=
  let c0_i32_70 : BitVec 32 := 0#32
  let c4_i32_14 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v41 : BitVec 32 := Scalar.muli c4_i32_14 v19
  let c2_i32_15 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v42 : BitVec 32 := Scalar.muli c2_i32_15 v37
  let v43 : BitVec 32 := Scalar.addi v41 v42
  let c1_i32_13 : BitVec 32 := 1#32
  let c2_i32_12 : BitVec 32 := 2#32
  let v38 : BitVec 32 := Scalar.remsi v20 c2_i32_12
  let v39 : BitVec 32 := Scalar.xori v37 v38
  let v40 : BitVec 32 := Scalar.subi c1_i32_13 v39
  let v44 : BitVec 32 := Scalar.xori v40 v37
  let v45 : BitVec 32 := Scalar.addi v43 v44
  let c1_i32_69 : BitVec 32 := 1#32
  let v137 : BitVec 32 := Scalar.muli v45 c1_i32_69
  let v138 : BitVec 32 := Scalar.addi c0_i32_70 v137
  v138.toNat
def k0_dev5 (d0 : Dev nD) : Nat :=
  let c0_i32_91 : BitVec 32 := 0#32
  let c4_i32_23 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v59 : BitVec 32 := Scalar.muli c4_i32_23 v19
  let c2_i32_24 : BitVec 32 := 2#32
  let c1_i32_22 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v58 : BitVec 32 := Scalar.subi c1_i32_22 v37
  let v60 : BitVec 32 := Scalar.muli c2_i32_24 v58
  let v61 : BitVec 32 := Scalar.addi v59 v60
  let c2_i32_12 : BitVec 32 := 2#32
  let v38 : BitVec 32 := Scalar.remsi v20 c2_i32_12
  let v39 : BitVec 32 := Scalar.xori v37 v38
  let v62 : BitVec 32 := Scalar.xori v39 v58
  let v63 : BitVec 32 := Scalar.addi v61 v62
  let c1_i32_90 : BitVec 32 := 1#32
  let v163 : BitVec 32 := Scalar.muli v63 c1_i32_90
  let v164 : BitVec 32 := Scalar.addi c0_i32_91 v163
  v164.toNat
def k0_dev6 (d0 : Dev nD) : Nat :=
  let c0_i32_112 : BitVec 32 := 0#32
  let c4_i32_32 : BitVec 32 := 4#32
  let c1_i32_31 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v76 : BitVec 32 := Scalar.subi c1_i32_31 v19
  let v77 : BitVec 32 := Scalar.muli c4_i32_32 v76
  let c2_i32_33 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v78 : BitVec 32 := Scalar.muli c2_i32_33 v37
  let v79 : BitVec 32 := Scalar.addi v77 v78
  let c2_i32_12 : BitVec 32 := 2#32
  let v38 : BitVec 32 := Scalar.remsi v20 c2_i32_12
  let v39 : BitVec 32 := Scalar.xori v37 v38
  let v80 : BitVec 32 := Scalar.xori v39 v37
  let v81 : BitVec 32 := Scalar.addi v79 v80
  let c1_i32_111 : BitVec 32 := 1#32
  let v189 : BitVec 32 := Scalar.muli v81 c1_i32_111
  let v190 : BitVec 32 := Scalar.addi c0_i32_112 v189
  v190.toNat
def k0_off2 (d0 : Dev nD) : Fin 2 → Nat :=
  let c4_i32_121 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v199 : BitVec 32 := Scalar.muli c4_i32_121 v19
  let c2_i32_122 : BitVec 32 := 2#32
  let c1_i32_120 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v198 : BitVec 32 := Scalar.subi c1_i32_120 v37
  let v200 : BitVec 32 := Scalar.muli c2_i32_122 v198
  let v201 : BitVec 32 := Scalar.addi v199 v200
  let c1_i32_119 : BitVec 32 := 1#32
  let c2_i32_12 : BitVec 32 := 2#32
  let v38 : BitVec 32 := Scalar.remsi v20 c2_i32_12
  let v39 : BitVec 32 := Scalar.xori v37 v38
  let v197 : BitVec 32 := Scalar.subi c1_i32_119 v39
  let v202 : BitVec 32 := Scalar.xori v197 v198
  let v203 : BitVec 32 := Scalar.addi v201 v202
  let c256_i32_123 : BitVec 32 := 256#32
  let v204 : BitVec 32 := Scalar.muli v203 c256_i32_123
  let v205 : Index := Scalar.indexCast v204
  let c0_124 : Index := 0#32
  ![v205.toNat, 0]
def k0_dev7 (d0 : Dev nD) : Nat :=
  let c0_i32_133 : BitVec 32 := 0#32
  let c4_i32_14 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v41 : BitVec 32 := Scalar.muli c4_i32_14 v19
  let c2_i32_15 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v42 : BitVec 32 := Scalar.muli c2_i32_15 v37
  let v43 : BitVec 32 := Scalar.addi v41 v42
  let c1_i32_13 : BitVec 32 := 1#32
  let c2_i32_12 : BitVec 32 := 2#32
  let v38 : BitVec 32 := Scalar.remsi v20 c2_i32_12
  let v39 : BitVec 32 := Scalar.xori v37 v38
  let v40 : BitVec 32 := Scalar.subi c1_i32_13 v39
  let v44 : BitVec 32 := Scalar.xori v40 v37
  let v45 : BitVec 32 := Scalar.addi v43 v44
  let c1_i32_132 : BitVec 32 := 1#32
  let v214 : BitVec 32 := Scalar.muli v45 c1_i32_132
  let v215 : BitVec 32 := Scalar.addi c0_i32_133 v214
  v215.toNat
def k0_off3 (d0 : Dev nD) : Fin 2 → Nat :=
  let c4_i32_141 : BitVec 32 := 4#32
  let c1_i32_140 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v223 : BitVec 32 := Scalar.subi c1_i32_140 v19
  let v224 : BitVec 32 := Scalar.muli c4_i32_141 v223
  let c2_i32_142 : BitVec 32 := 2#32
  let c1_i32_139 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v222 : BitVec 32 := Scalar.subi c1_i32_139 v37
  let v225 : BitVec 32 := Scalar.muli c2_i32_142 v222
  let v226 : BitVec 32 := Scalar.addi v224 v225
  let c2_i32_12 : BitVec 32 := 2#32
  let v38 : BitVec 32 := Scalar.remsi v20 c2_i32_12
  let v39 : BitVec 32 := Scalar.xori v37 v38
  let v227 : BitVec 32 := Scalar.xori v39 v222
  let v228 : BitVec 32 := Scalar.addi v226 v227
  let c256_i32_143 : BitVec 32 := 256#32
  let v229 : BitVec 32 := Scalar.muli v228 c256_i32_143
  let v230 : Index := Scalar.indexCast v229
  let c0_144 : Index := 0#32
  ![v230.toNat, 0]
def k0_dev8 (d0 : Dev nD) : Nat :=
  let c0_i32_154 : BitVec 32 := 0#32
  let c4_i32_23 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v59 : BitVec 32 := Scalar.muli c4_i32_23 v19
  let c2_i32_24 : BitVec 32 := 2#32
  let c1_i32_22 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v58 : BitVec 32 := Scalar.subi c1_i32_22 v37
  let v60 : BitVec 32 := Scalar.muli c2_i32_24 v58
  let v61 : BitVec 32 := Scalar.addi v59 v60
  let c2_i32_12 : BitVec 32 := 2#32
  let v38 : BitVec 32 := Scalar.remsi v20 c2_i32_12
  let v39 : BitVec 32 := Scalar.xori v37 v38
  let v62 : BitVec 32 := Scalar.xori v39 v58
  let v63 : BitVec 32 := Scalar.addi v61 v62
  let c1_i32_153 : BitVec 32 := 1#32
  let v239 : BitVec 32 := Scalar.muli v63 c1_i32_153
  let v240 : BitVec 32 := Scalar.addi c0_i32_154 v239
  v240.toNat
def k0_off4 (d0 : Dev nD) : Fin 2 → Nat :=
  let c4_i32_163 : BitVec 32 := 4#32
  let c1_i32_161 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v247 : BitVec 32 := Scalar.subi c1_i32_161 v19
  let v249 : BitVec 32 := Scalar.muli c4_i32_163 v247
  let c2_i32_164 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v250 : BitVec 32 := Scalar.muli c2_i32_164 v37
  let v251 : BitVec 32 := Scalar.addi v249 v250
  let c1_i32_162 : BitVec 32 := 1#32
  let c2_i32_12 : BitVec 32 := 2#32
  let v38 : BitVec 32 := Scalar.remsi v20 c2_i32_12
  let v39 : BitVec 32 := Scalar.xori v37 v38
  let v248 : BitVec 32 := Scalar.subi c1_i32_162 v39
  let v252 : BitVec 32 := Scalar.xori v248 v37
  let v253 : BitVec 32 := Scalar.addi v251 v252
  let c256_i32_165 : BitVec 32 := 256#32
  let v254 : BitVec 32 := Scalar.muli v253 c256_i32_165
  let v255 : Index := Scalar.indexCast v254
  let c0_166 : Index := 0#32
  ![v255.toNat, 0]
def k0_dev9 (d0 : Dev nD) : Nat :=
  let c0_i32_175 : BitVec 32 := 0#32
  let c4_i32_32 : BitVec 32 := 4#32
  let c1_i32_31 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v76 : BitVec 32 := Scalar.subi c1_i32_31 v19
  let v77 : BitVec 32 := Scalar.muli c4_i32_32 v76
  let c2_i32_33 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v78 : BitVec 32 := Scalar.muli c2_i32_33 v37
  let v79 : BitVec 32 := Scalar.addi v77 v78
  let c2_i32_12 : BitVec 32 := 2#32
  let v38 : BitVec 32 := Scalar.remsi v20 c2_i32_12
  let v39 : BitVec 32 := Scalar.xori v37 v38
  let v80 : BitVec 32 := Scalar.xori v39 v37
  let v81 : BitVec 32 := Scalar.addi v79 v80
  let c1_i32_174 : BitVec 32 := 1#32
  let v264 : BitVec 32 := Scalar.muli v81 c1_i32_174
  let v265 : BitVec 32 := Scalar.addi c0_i32_175 v264
  v265.toNat
def k0_dev10 (d0 : Dev nD) : Nat :=
  let c0_i32_196 : BitVec 32 := 0#32
  let c4_i32_14 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v41 : BitVec 32 := Scalar.muli c4_i32_14 v19
  let c2_i32_15 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v42 : BitVec 32 := Scalar.muli c2_i32_15 v37
  let v43 : BitVec 32 := Scalar.addi v41 v42
  let c1_i32_13 : BitVec 32 := 1#32
  let c2_i32_12 : BitVec 32 := 2#32
  let v38 : BitVec 32 := Scalar.remsi v20 c2_i32_12
  let v39 : BitVec 32 := Scalar.xori v37 v38
  let v40 : BitVec 32 := Scalar.subi c1_i32_13 v39
  let v44 : BitVec 32 := Scalar.xori v40 v37
  let v45 : BitVec 32 := Scalar.addi v43 v44
  let c1_i32_195 : BitVec 32 := 1#32
  let v289 : BitVec 32 := Scalar.muli v45 c1_i32_195
  let v290 : BitVec 32 := Scalar.addi c0_i32_196 v289
  v290.toNat
def k0_dev11 (d0 : Dev nD) : Nat :=
  let c0_i32_216 : BitVec 32 := 0#32
  let c4_i32_23 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v59 : BitVec 32 := Scalar.muli c4_i32_23 v19
  let c2_i32_24 : BitVec 32 := 2#32
  let c1_i32_22 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v58 : BitVec 32 := Scalar.subi c1_i32_22 v37
  let v60 : BitVec 32 := Scalar.muli c2_i32_24 v58
  let v61 : BitVec 32 := Scalar.addi v59 v60
  let c2_i32_12 : BitVec 32 := 2#32
  let v38 : BitVec 32 := Scalar.remsi v20 c2_i32_12
  let v39 : BitVec 32 := Scalar.xori v37 v38
  let v62 : BitVec 32 := Scalar.xori v39 v58
  let v63 : BitVec 32 := Scalar.addi v61 v62
  let c1_i32_215 : BitVec 32 := 1#32
  let v314 : BitVec 32 := Scalar.muli v63 c1_i32_215
  let v315 : BitVec 32 := Scalar.addi c0_i32_216 v314
  v315.toNat
def k0_dev12 (d0 : Dev nD) : Nat :=
  let c0_i32_237 : BitVec 32 := 0#32
  let c4_i32_32 : BitVec 32 := 4#32
  let c1_i32_31 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v76 : BitVec 32 := Scalar.subi c1_i32_31 v19
  let v77 : BitVec 32 := Scalar.muli c4_i32_32 v76
  let c2_i32_33 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v78 : BitVec 32 := Scalar.muli c2_i32_33 v37
  let v79 : BitVec 32 := Scalar.addi v77 v78
  let c2_i32_12 : BitVec 32 := 2#32
  let v38 : BitVec 32 := Scalar.remsi v20 c2_i32_12
  let v39 : BitVec 32 := Scalar.xori v37 v38
  let v80 : BitVec 32 := Scalar.xori v39 v37
  let v81 : BitVec 32 := Scalar.addi v79 v80
  let c1_i32_236 : BitVec 32 := 1#32
  let v339 : BitVec 32 := Scalar.muli v81 c1_i32_236
  let v340 : BitVec 32 := Scalar.addi c0_i32_237 v339
  v340.toNat
def k0_off5 (d0 : Dev nD) : Fin 2 → Nat :=
  let c4_i32_245 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v348 : BitVec 32 := Scalar.muli c4_i32_245 v19
  let c2_i32_246 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v349 : BitVec 32 := Scalar.muli c2_i32_246 v37
  let v350 : BitVec 32 := Scalar.addi v348 v349
  let c1_i32_244 : BitVec 32 := 1#32
  let c2_i32_12 : BitVec 32 := 2#32
  let v38 : BitVec 32 := Scalar.remsi v20 c2_i32_12
  let v39 : BitVec 32 := Scalar.xori v37 v38
  let v347 : BitVec 32 := Scalar.subi c1_i32_244 v39
  let v351 : BitVec 32 := Scalar.xori v347 v37
  let v352 : BitVec 32 := Scalar.addi v350 v351
  let c256_i32_247 : BitVec 32 := 256#32
  let v353 : BitVec 32 := Scalar.muli v352 c256_i32_247
  let v354 : Index := Scalar.indexCast v353
  let c0_248 : Index := 0#32
  ![v354.toNat, 0]
def k0_dev13 (d0 : Dev nD) : Nat :=
  let c0_i32_257 : BitVec 32 := 0#32
  let c4_i32_14 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v41 : BitVec 32 := Scalar.muli c4_i32_14 v19
  let c2_i32_15 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v42 : BitVec 32 := Scalar.muli c2_i32_15 v37
  let v43 : BitVec 32 := Scalar.addi v41 v42
  let c1_i32_13 : BitVec 32 := 1#32
  let c2_i32_12 : BitVec 32 := 2#32
  let v38 : BitVec 32 := Scalar.remsi v20 c2_i32_12
  let v39 : BitVec 32 := Scalar.xori v37 v38
  let v40 : BitVec 32 := Scalar.subi c1_i32_13 v39
  let v44 : BitVec 32 := Scalar.xori v40 v37
  let v45 : BitVec 32 := Scalar.addi v43 v44
  let c1_i32_256 : BitVec 32 := 1#32
  let v363 : BitVec 32 := Scalar.muli v45 c1_i32_256
  let v364 : BitVec 32 := Scalar.addi c0_i32_257 v363
  v364.toNat
def k0_off6 (d0 : Dev nD) : Fin 2 → Nat :=
  let c4_i32_265 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v372 : BitVec 32 := Scalar.muli c4_i32_265 v19
  let c2_i32_266 : BitVec 32 := 2#32
  let c1_i32_264 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v371 : BitVec 32 := Scalar.subi c1_i32_264 v37
  let v373 : BitVec 32 := Scalar.muli c2_i32_266 v371
  let v374 : BitVec 32 := Scalar.addi v372 v373
  let c2_i32_12 : BitVec 32 := 2#32
  let v38 : BitVec 32 := Scalar.remsi v20 c2_i32_12
  let v39 : BitVec 32 := Scalar.xori v37 v38
  let v375 : BitVec 32 := Scalar.xori v39 v371
  let v376 : BitVec 32 := Scalar.addi v374 v375
  let c256_i32_267 : BitVec 32 := 256#32
  let v377 : BitVec 32 := Scalar.muli v376 c256_i32_267
  let v378 : Index := Scalar.indexCast v377
  let c0_268 : Index := 0#32
  ![v378.toNat, 0]
def k0_dev14 (d0 : Dev nD) : Nat :=
  let c0_i32_277 : BitVec 32 := 0#32
  let c4_i32_23 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v59 : BitVec 32 := Scalar.muli c4_i32_23 v19
  let c2_i32_24 : BitVec 32 := 2#32
  let c1_i32_22 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v58 : BitVec 32 := Scalar.subi c1_i32_22 v37
  let v60 : BitVec 32 := Scalar.muli c2_i32_24 v58
  let v61 : BitVec 32 := Scalar.addi v59 v60
  let c2_i32_12 : BitVec 32 := 2#32
  let v38 : BitVec 32 := Scalar.remsi v20 c2_i32_12
  let v39 : BitVec 32 := Scalar.xori v37 v38
  let v62 : BitVec 32 := Scalar.xori v39 v58
  let v63 : BitVec 32 := Scalar.addi v61 v62
  let c1_i32_276 : BitVec 32 := 1#32
  let v387 : BitVec 32 := Scalar.muli v63 c1_i32_276
  let v388 : BitVec 32 := Scalar.addi c0_i32_277 v387
  v388.toNat
def k0_off7 (d0 : Dev nD) : Fin 2 → Nat :=
  let c4_i32_285 : BitVec 32 := 4#32
  let c1_i32_284 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v395 : BitVec 32 := Scalar.subi c1_i32_284 v19
  let v396 : BitVec 32 := Scalar.muli c4_i32_285 v395
  let c2_i32_286 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v397 : BitVec 32 := Scalar.muli c2_i32_286 v37
  let v398 : BitVec 32 := Scalar.addi v396 v397
  let c2_i32_12 : BitVec 32 := 2#32
  let v38 : BitVec 32 := Scalar.remsi v20 c2_i32_12
  let v39 : BitVec 32 := Scalar.xori v37 v38
  let v399 : BitVec 32 := Scalar.xori v39 v37
  let v400 : BitVec 32 := Scalar.addi v398 v399
  let c256_i32_287 : BitVec 32 := 256#32
  let v401 : BitVec 32 := Scalar.muli v400 c256_i32_287
  let v402 : Index := Scalar.indexCast v401
  let c0_288 : Index := 0#32
  ![v402.toNat, 0]
def k0_dev15 (d0 : Dev nD) : Nat :=
  let c0_i32_297 : BitVec 32 := 0#32
  let c4_i32_32 : BitVec 32 := 4#32
  let c1_i32_31 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v76 : BitVec 32 := Scalar.subi c1_i32_31 v19
  let v77 : BitVec 32 := Scalar.muli c4_i32_32 v76
  let c2_i32_33 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v78 : BitVec 32 := Scalar.muli c2_i32_33 v37
  let v79 : BitVec 32 := Scalar.addi v77 v78
  let c2_i32_12 : BitVec 32 := 2#32
  let v38 : BitVec 32 := Scalar.remsi v20 c2_i32_12
  let v39 : BitVec 32 := Scalar.xori v37 v38
  let v80 : BitVec 32 := Scalar.xori v39 v37
  let v81 : BitVec 32 := Scalar.addi v79 v80
  let c1_i32_296 : BitVec 32 := 1#32
  let v411 : BitVec 32 := Scalar.muli v81 c1_i32_296
  let v412 : BitVec 32 := Scalar.addi c0_i32_297 v411
  v412.toNat
def k0_off8 (d0 : Dev nD) : Fin 2 → Nat :=
  let c4_i32_403 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v566 : BitVec 32 := Scalar.muli c4_i32_403 v19
  let c2_i32_404 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v567 : BitVec 32 := Scalar.muli c2_i32_404 v37
  let v568 : BitVec 32 := Scalar.addi v566 v567
  let c2_i32_12 : BitVec 32 := 2#32
  let v38 : BitVec 32 := Scalar.remsi v20 c2_i32_12
  let v39 : BitVec 32 := Scalar.xori v37 v38
  let v569 : BitVec 32 := Scalar.xori v39 v37
  let v570 : BitVec 32 := Scalar.addi v568 v569
  let c256_i32_405 : BitVec 32 := 256#32
  let v571 : BitVec 32 := Scalar.muli v570 c256_i32_405
  let v572 : Index := Scalar.indexCast v571
  let c0_406 : Index := 0#32
  ![v572.toNat, 0]
def k0_dev16 (d0 : Dev nD) : Nat :=
  let c0_i32_455 : BitVec 32 := 0#32
  let c4_i32_17 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v47 : BitVec 32 := Scalar.muli c4_i32_17 v19
  let c2_i32_18 : BitVec 32 := 2#32
  let c1_i32_16 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v46 : BitVec 32 := Scalar.subi c1_i32_16 v37
  let v48 : BitVec 32 := Scalar.muli c2_i32_18 v46
  let v49 : BitVec 32 := Scalar.addi v47 v48
  let c2_i32_12 : BitVec 32 := 2#32
  let v38 : BitVec 32 := Scalar.remsi v20 c2_i32_12
  let v39 : BitVec 32 := Scalar.xori v37 v38
  let v50 : BitVec 32 := Scalar.xori v39 v46
  let v51 : BitVec 32 := Scalar.addi v49 v50
  let c1_i32_454 : BitVec 32 := 1#32
  let v625 : BitVec 32 := Scalar.muli v51 c1_i32_454
  let v626 : BitVec 32 := Scalar.addi c0_i32_455 v625
  v626.toNat
def k0_dev17 (d0 : Dev nD) : Nat :=
  let c0_i32_483 : BitVec 32 := 0#32
  let c4_i32_26 : BitVec 32 := 4#32
  let c1_i32_25 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v64 : BitVec 32 := Scalar.subi c1_i32_25 v19
  let v65 : BitVec 32 := Scalar.muli c4_i32_26 v64
  let c2_i32_27 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v66 : BitVec 32 := Scalar.muli c2_i32_27 v37
  let v67 : BitVec 32 := Scalar.addi v65 v66
  let c2_i32_12 : BitVec 32 := 2#32
  let v38 : BitVec 32 := Scalar.remsi v20 c2_i32_12
  let v39 : BitVec 32 := Scalar.xori v37 v38
  let v68 : BitVec 32 := Scalar.xori v39 v37
  let v69 : BitVec 32 := Scalar.addi v67 v68
  let c1_i32_482 : BitVec 32 := 1#32
  let v647 : BitVec 32 := Scalar.muli v69 c1_i32_482
  let v648 : BitVec 32 := Scalar.addi c0_i32_483 v647
  v648.toNat
def k0_dev18 (d0 : Dev nD) : Nat :=
  let c0_i32_511 : BitVec 32 := 0#32
  let c4_i32_35 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v83 : BitVec 32 := Scalar.muli c4_i32_35 v19
  let c2_i32_36 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v84 : BitVec 32 := Scalar.muli c2_i32_36 v37
  let v85 : BitVec 32 := Scalar.addi v83 v84
  let c1_i32_34 : BitVec 32 := 1#32
  let c2_i32_12 : BitVec 32 := 2#32
  let v38 : BitVec 32 := Scalar.remsi v20 c2_i32_12
  let v39 : BitVec 32 := Scalar.xori v37 v38
  let v82 : BitVec 32 := Scalar.subi c1_i32_34 v39
  let v86 : BitVec 32 := Scalar.xori v82 v37
  let v87 : BitVec 32 := Scalar.addi v85 v86
  let c1_i32_510 : BitVec 32 := 1#32
  let v669 : BitVec 32 := Scalar.muli v87 c1_i32_510
  let v670 : BitVec 32 := Scalar.addi c0_i32_511 v669
  v670.toNat
def k0_dev19 (d0 : Dev nD) : Nat :=
  let c0_i32_540 : BitVec 32 := 0#32
  let c4_i32_17 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v47 : BitVec 32 := Scalar.muli c4_i32_17 v19
  let c2_i32_18 : BitVec 32 := 2#32
  let c1_i32_16 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v46 : BitVec 32 := Scalar.subi c1_i32_16 v37
  let v48 : BitVec 32 := Scalar.muli c2_i32_18 v46
  let v49 : BitVec 32 := Scalar.addi v47 v48
  let c2_i32_12 : BitVec 32 := 2#32
  let v38 : BitVec 32 := Scalar.remsi v20 c2_i32_12
  let v39 : BitVec 32 := Scalar.xori v37 v38
  let v50 : BitVec 32 := Scalar.xori v39 v46
  let v51 : BitVec 32 := Scalar.addi v49 v50
  let c1_i32_539 : BitVec 32 := 1#32
  let v691 : BitVec 32 := Scalar.muli v51 c1_i32_539
  let v692 : BitVec 32 := Scalar.addi c0_i32_540 v691
  v692.toNat
def k0_dev20 (d0 : Dev nD) : Nat :=
  let c0_i32_568 : BitVec 32 := 0#32
  let c4_i32_26 : BitVec 32 := 4#32
  let c1_i32_25 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v64 : BitVec 32 := Scalar.subi c1_i32_25 v19
  let v65 : BitVec 32 := Scalar.muli c4_i32_26 v64
  let c2_i32_27 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v66 : BitVec 32 := Scalar.muli c2_i32_27 v37
  let v67 : BitVec 32 := Scalar.addi v65 v66
  let c2_i32_12 : BitVec 32 := 2#32
  let v38 : BitVec 32 := Scalar.remsi v20 c2_i32_12
  let v39 : BitVec 32 := Scalar.xori v37 v38
  let v68 : BitVec 32 := Scalar.xori v39 v37
  let v69 : BitVec 32 := Scalar.addi v67 v68
  let c1_i32_567 : BitVec 32 := 1#32
  let v713 : BitVec 32 := Scalar.muli v69 c1_i32_567
  let v714 : BitVec 32 := Scalar.addi c0_i32_568 v713
  v714.toNat
def k0_dev21 (d0 : Dev nD) : Nat :=
  let c0_i32_596 : BitVec 32 := 0#32
  let c4_i32_35 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v83 : BitVec 32 := Scalar.muli c4_i32_35 v19
  let c2_i32_36 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v84 : BitVec 32 := Scalar.muli c2_i32_36 v37
  let v85 : BitVec 32 := Scalar.addi v83 v84
  let c1_i32_34 : BitVec 32 := 1#32
  let c2_i32_12 : BitVec 32 := 2#32
  let v38 : BitVec 32 := Scalar.remsi v20 c2_i32_12
  let v39 : BitVec 32 := Scalar.xori v37 v38
  let v82 : BitVec 32 := Scalar.subi c1_i32_34 v39
  let v86 : BitVec 32 := Scalar.xori v82 v37
  let v87 : BitVec 32 := Scalar.addi v85 v86
  let c1_i32_595 : BitVec 32 := 1#32
  let v735 : BitVec 32 := Scalar.muli v87 c1_i32_595
  let v736 : BitVec 32 := Scalar.addi c0_i32_596 v735
  v736.toNat
def k0_dev22 (d0 : Dev nD) : Nat :=
  let c0_i32_682 : BitVec 32 := 0#32
  let c4_i32_20 : BitVec 32 := 4#32
  let c1_i32_19 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v52 : BitVec 32 := Scalar.subi c1_i32_19 v19
  let v53 : BitVec 32 := Scalar.muli c4_i32_20 v52
  let c2_i32_21 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v54 : BitVec 32 := Scalar.muli c2_i32_21 v37
  let v55 : BitVec 32 := Scalar.addi v53 v54
  let c2_i32_12 : BitVec 32 := 2#32
  let v38 : BitVec 32 := Scalar.remsi v20 c2_i32_12
  let v39 : BitVec 32 := Scalar.xori v37 v38
  let v56 : BitVec 32 := Scalar.xori v39 v37
  let v57 : BitVec 32 := Scalar.addi v55 v56
  let c1_i32_681 : BitVec 32 := 1#32
  let v799 : BitVec 32 := Scalar.muli v57 c1_i32_681
  let v800 : BitVec 32 := Scalar.addi c0_i32_682 v799
  v800.toNat
def k0_dev23 (d0 : Dev nD) : Nat :=
  let c0_i32_710 : BitVec 32 := 0#32
  let c4_i32_29 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v71 : BitVec 32 := Scalar.muli c4_i32_29 v19
  let c2_i32_30 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v72 : BitVec 32 := Scalar.muli c2_i32_30 v37
  let v73 : BitVec 32 := Scalar.addi v71 v72
  let c1_i32_28 : BitVec 32 := 1#32
  let c2_i32_12 : BitVec 32 := 2#32
  let v38 : BitVec 32 := Scalar.remsi v20 c2_i32_12
  let v39 : BitVec 32 := Scalar.xori v37 v38
  let v70 : BitVec 32 := Scalar.subi c1_i32_28 v39
  let v74 : BitVec 32 := Scalar.xori v70 v37
  let v75 : BitVec 32 := Scalar.addi v73 v74
  let c1_i32_709 : BitVec 32 := 1#32
  let v821 : BitVec 32 := Scalar.muli v75 c1_i32_709
  let v822 : BitVec 32 := Scalar.addi c0_i32_710 v821
  v822.toNat
def k0_dev24 (d0 : Dev nD) : Nat :=
  let c0_i32_738 : BitVec 32 := 0#32
  let c4_i32_38 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v89 : BitVec 32 := Scalar.muli c4_i32_38 v19
  let c2_i32_39 : BitVec 32 := 2#32
  let c1_i32_37 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v88 : BitVec 32 := Scalar.subi c1_i32_37 v37
  let v90 : BitVec 32 := Scalar.muli c2_i32_39 v88
  let v91 : BitVec 32 := Scalar.addi v89 v90
  let c2_i32_12 : BitVec 32 := 2#32
  let v38 : BitVec 32 := Scalar.remsi v20 c2_i32_12
  let v39 : BitVec 32 := Scalar.xori v37 v38
  let v92 : BitVec 32 := Scalar.xori v39 v88
  let v93 : BitVec 32 := Scalar.addi v91 v92
  let c1_i32_737 : BitVec 32 := 1#32
  let v843 : BitVec 32 := Scalar.muli v93 c1_i32_737
  let v844 : BitVec 32 := Scalar.addi c0_i32_738 v843
  v844.toNat
abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Prog.lean ====
/-
# The kernel's body, named

The printed body is one long sequence. This module names its pieces: the three column parts of the product,
the slots of the two scratch buffers of each part, the semaphores, and one small program for each kind of step.
`body_eq` says that the printed body is the sequence of those steps.

The columns of the result are cut in three parts `p` (768, 640 and 640 columns). Part `p` has an accumulator
buffer of eight slots and a landing buffer of seven slots. Each part makes seven transfers `j`: transfer `j`
sends accumulator slot `7 - j` into landing slot `dstSlot j` of a neighbour.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Reduce

open Cert.KernelIdeal Cert.KernelIdeal.Gen
open Idealize.ShloMosaic Idealize.ShloMosaic.TcCoe Idealize.SL.Sem

variable {F : FTy → Type} [FloatOps F]

/-! ## The three column parts -/

/-- The number of columns of part `p`. -/
def cols : Fin 3 → Nat := ![768, 640, 640]
/-- The first column of part `p`. -/
def off : Fin 3 → Nat := ![0, 768, 1408]

/-- A block of 256 rows of part `p`. -/
abbrev wSh (p : Fin 3) : Shape := ⟨2, ![256, cols p]⟩
/-- One slot of part `p`: a block of 256 rows, with a leading axis of size one. -/
abbrev slotSh (p : Fin 3) : Shape := ⟨3, ![1, 256, cols p]⟩
/-- The accumulator buffer of part `p`: eight slots. -/
abbrev accSh (p : Fin 3) : Shape := ⟨3, ![8, 256, cols p]⟩
/-- The landing buffer of part `p`: seven slots. -/
abbrev rcvSh (p : Fin 3) : Shape := ⟨3, ![7, 256, cols p]⟩

/-- The accumulator buffer of part `p`. -/
def accM : (p : Fin 3) → Memref sig .tc .vmem (accSh p) .f32
  | 0 => Memref.whole cc0_scratch0
  | 1 => Memref.whole cc0_scratch1
  | 2 => Memref.whole cc0_scratch2
/-- The landing buffer of part `p`. -/
def rcvM : (p : Fin 3) → Memref sig .tc .vmem (rcvSh p) .f32
  | 0 => Memref.whole cc0_scratch3
  | 1 => Memref.whole cc0_scratch4
  | 2 => Memref.whole cc0_scratch5

theorem inb_acc (p : Fin 3) (t : Fin 8) : ∀ a, (![t.val, 0, 0] : Fin 3 → Nat) a + (slotSh p).size a ≤ (accSh p).size a := by
  intro a; have := t.isLt; fin_cases a <;> simp <;> omega
theorem inb_rcv (p : Fin 3) (s : Fin 7) : ∀ a, (![s.val, 0, 0] : Fin 3 → Nat) a + (slotSh p).size a ≤ (rcvSh p).size a := by
  intro a; have := s.isLt; fin_cases a <;> simp <;> omega
theorem inb_part (p : Fin 3) : ∀ a, (![0, off p] : Fin 2 → Nat) a + (wSh p).size a ≤ S256x2048.size a := by
  revert p; decide
theorem inb_sem (p : Fin 3) (j : Fin 7) : ∀ a, (![7 * p.val + j.val] : Fin 1 → Nat) a + S1.size a ≤ S21.size a := by
  intro a; have := p.isLt; have := j.isLt; fin_cases a; simp; omega
theorem numel_w (p : Fin 3) : 0 < (wSh p).numel := by revert p; decide
theorem numel_slot (p : Fin 3) : 0 < (slotSh p).numel := by revert p; decide
theorem casts_ww (p : Fin 3) : (wSh p).ShapeCasts (wSh p) := by revert p; decide
theorem casts_ws (p : Fin 3) : (wSh p).ShapeCasts (slotSh p) := by revert p; decide
theorem casts_sw (p : Fin 3) : (slotSh p).ShapeCasts (wSh p) := by revert p; decide

/-- The rectangle of accumulator slot `t`. -/
abbrev accRect (p : Fin 3) (t : Fin 8) : Rect (accSh p) := Rect.unit (s := accSh p) ![t.val, 0, 0] (slotSh p).size (inb_acc p t)
/-- The rectangle of landing slot `s`. -/
abbrev rcvRect (p : Fin 3) (s : Fin 7) : Rect (rcvSh p) := Rect.unit (s := rcvSh p) ![s.val, 0, 0] (slotSh p).size (inb_rcv p s)
/-- The rectangle of part `p` of the 2048 columns. -/
abbrev partRect (p : Fin 3) : Rect S256x2048 := Rect.unit (s := S256x2048) ![0, off p] (wSh p).size (inb_part p)

/-- Accumulator slot `t` of part `p`. -/
abbrev accSlot (p : Fin 3) (t : Fin 8) : Memref sig .tc .vmem (slotSh p) .f32 := (accM p).slice (accRect p t) (fun _ => rfl)
/-- Landing slot `s` of part `p`. -/
abbrev rcvSlot (p : Fin 3) (s : Fin 7) : Memref sig .tc .vmem (slotSh p) .f32 := (rcvM p).slice (rcvRect p s) (fun _ => rfl)

/-- The accumulator slot transfer `j` sends. -/
def srcSlot (j : Fin 7) : Fin 8 := ⟨7 - j.val, by omega⟩
/-- The landing slot transfer `j` fills. -/
def dstSlot : Fin 7 → Fin 7 := ![3, 2, 1, 0, 5, 4, 6]

/-- The semaphore the sender of transfer `(p, j)` is credited on. -/
def sSem (p : Fin 3) (j : Fin 7) : DmaSem sig :=
  ((cc0_scratch6.slice (Rect.unit (s := S21) ![7 * p.val + j.val] S1.size (inb_sem p j))).squeeze S_ squeezes_S1_S_).sem
/-- The semaphore the receiver of transfer `(p, j)` is credited on. -/
def rSem (p : Fin 3) (j : Fin 7) : DmaSem sig :=
  ((cc0_scratch7.slice (Rect.unit (s := S21) ![7 * p.val + j.val] S1.size (inb_sem p j))).squeeze S_ squeezes_S1_S_).sem

/-! ## Devices and row blocks, as printed -/

/-- The device the `d`-th entry signal goes to, as printed. -/
def nbrDev (d : Fin 3) (c : Dev nD) : Dev nD :=
  (![⟨k0_dev1 c, k0_dev1_lt c⟩, ⟨k0_dev2 c, k0_dev2_lt c⟩, ⟨k0_dev3 c, k0_dev3_lt c⟩] : Fin 3 → Dev nD) d

/-- The device transfer `(p, j)` goes to, as printed. -/
def sendDev (p : Fin 3) (j : Fin 7) (c : Dev nD) : Dev nD :=
  (![![⟨k0_dev4 c, k0_dev4_lt c⟩, ⟨k0_dev7 c, k0_dev7_lt c⟩, ⟨k0_dev10 c, k0_dev10_lt c⟩, ⟨k0_dev13 c, k0_dev13_lt c⟩,
       ⟨k0_dev16 c, k0_dev16_lt c⟩, ⟨k0_dev19 c, k0_dev19_lt c⟩, ⟨k0_dev22 c, k0_dev22_lt c⟩],
     ![⟨k0_dev5 c, k0_dev5_lt c⟩, ⟨k0_dev8 c, k0_dev8_lt c⟩, ⟨k0_dev11 c, k0_dev11_lt c⟩, ⟨k0_dev14 c, k0_dev14_lt c⟩,
       ⟨k0_dev17 c, k0_dev17_lt c⟩, ⟨k0_dev20 c, k0_dev20_lt c⟩, ⟨k0_dev23 c, k0_dev23_lt c⟩],
     ![⟨k0_dev6 c, k0_dev6_lt c⟩, ⟨k0_dev9 c, k0_dev9_lt c⟩, ⟨k0_dev12 c, k0_dev12_lt c⟩, ⟨k0_dev15 c, k0_dev15_lt c⟩,
       ⟨k0_dev18 c, k0_dev18_lt c⟩, ⟨k0_dev21 c, k0_dev21_lt c⟩, ⟨k0_dev24 c, k0_dev24_lt c⟩]] : Fin 3 → Fin 7 → Dev nD) p j

/-- Where in `x` the rows of the product for slot `t` of part `p` begin, as printed. -/
def xoff (p : Fin 3) (t : Fin 8) (c : Dev nD) : Fin 2 → Nat :=
  (![![k0_off8, k0_off7, k0_off6, k0_off3, k0_off5, k0_off4, k0_off2, k0_off1],
     ![k0_off8, k0_off5, k0_off7, k0_off4, k0_off6, k0_off2, k0_off3, k0_off1],
     ![k0_off8, k0_off6, k0_off5, k0_off2, k0_off7, k0_off3, k0_off4, k0_off1]] : Fin 3 → Fin 8 → Dev nD → Fin 2 → Nat) p t c

/-- The neighbour of a device in each of the three directions: the device number with some bits turned. -/
def flip (d : Fin 3) (c : Dev nD) : Dev nD := ⟨c.val ^^^ (![1, 3, 4] : Fin 3 → Nat) d, by revert d c; decide⟩

/-- The direction part `p` uses in its `i`-th exchange. -/
def dim (p : Fin 3) (i : Fin 3) : Fin 3 := p + i
/-- The exchange transfer `j` belongs to. -/
def rnd : Fin 7 → Fin 3 := ![0, 0, 0, 0, 1, 1, 2]
/-- The neighbour transfer `(p, j)` goes to, and comes from. -/
def peer (p : Fin 3) (j : Fin 7) (c : Dev nD) : Dev nD := flip (dim p (rnd j)) c

/-- `c` turned in direction `d` when `b` is set. -/
def flipIf (b : Bool) (d : Fin 3) (c : Dev nD) : Dev nD := if b then flip d c else c
/-- The row block slot `t` of part `p` of device `c` is about: `c` turned by the bits of `t`. -/
def chunk (p : Fin 3) (t : Fin 8) (c : Dev nD) : Dev nD :=
  flipIf (t.val.testBit 2) (dim p 0) (flipIf (t.val.testBit 1) (dim p 1) (flipIf (t.val.testBit 0) (dim p 2) c))

set_option maxRecDepth 20000 in
/-- The entry signals go to the three neighbours. -/
theorem nbrDev_eq (d : Fin 3) (c : Dev nD) : nbrDev d c = flip d c := by revert d c; decide +kernel
set_option maxRecDepth 20000 in
/-- Each transfer goes to its peer. -/
theorem sendDev_eq (p : Fin 3) (j : Fin 7) (c : Dev nD) : sendDev p j c = peer p j c := by revert p j c; decide +kernel
set_option maxRecDepth 20000 in
/-- The rows of a product are those of its row block. -/
theorem xoff_eq (p : Fin 3) (t : Fin 8) (c : Dev nD) : xoff p t c = ![256 * (chunk p t c).val, 0] := by
  revert p t c; decide +kernel
theorem sSem_eq (p : Fin 3) (j : Fin 7) : sSem p j = ⟨3 + (7 * p.val + j.val), by have := p.isLt; have := j.isLt; simp; omega⟩ := by
  revert p j; decide +kernel
theorem rSem_eq (p : Fin 3) (j : Fin 7) : rSem p j = ⟨24 + (7 * p.val + j.val), by have := p.isLt; have := j.isLt; simp; omega⟩ := by
  revert p j; decide +kernel
theorem flip_flip (d : Fin 3) (c : Dev nD) : flip d (flip d c) = c := by revert d c; decide
theorem flip_comm (d e : Fin 3) (c : Dev nD) : flip d (flip e c) = flip e (flip d c) := by revert d e c; decide
theorem peer_peer (p : Fin 3) (j : Fin 7) (c : Dev nD) : peer p j (peer p j c) = c := flip_flip _ _

theorem inb_x (p : Fin 3) (t : Fin 8) (c : Dev nD) : ∀ a, xoff p t c a + S256x256.size a ≤ S2048x256.size a := by
  rw [xoff_eq]; intro a; have : (chunk p t c).val < 8 := (chunk p t c).isLt; fin_cases a <;> simp; omega

/-- The rows of `x` that the product for slot `t` of part `p` reads. -/
abbrev xRect (p : Fin 3) (t : Fin 8) (c : Dev nD) : Rect S2048x256 := Rect.unit (s := S2048x256) (xoff p t c) S256x256.size (inb_x p t c)

/-! ## The arithmetic of a step -/

/-- The product's dimension numbers: rows times columns. -/
def dotP : (p : Fin 3) → DotDims S256x256 (wSh p) (wSh p)
  | 0 => dot_S256x256_S256x768_S256x768_1_0_0_1_n_n
  | 1 => dot_S256x256_S256x640_S256x640_1_0_0_1_n_n
  | 2 => dot_S256x256_S256x640_S256x640_1_0_0_1_n_n

/-- The product of a row block of `x` and a part of `w`, as stored in a slot. -/
def prodV (p : Fin 3) (a : Vec F S256x256 .f32) (b : Vec F (wSh p) .f32) : Vec F (slotSh p) .f32 :=
  shapeCast (slotSh p) (matmul (F := F) (φ₁ := .f32) (φ₂ := .f32) (dotP p) none (shapeCast S256x256 a shapeCasts_S256x256_S256x256) (shapeCast (wSh p) b (casts_ww p))
    (constant (wSh p) .f32 0x00000000#32)) (casts_ws p)

/-- The sum of two slots. -/
def addV (p : Fin 3) (a b : Vec F (slotSh p) .f32) : Vec F (slotSh p) .f32 :=
  shapeCast (slotSh p) (addf (φ := .f32) (shapeCast (wSh p) a (casts_sw p)) (shapeCast (wSh p) b (casts_sw p))) (casts_ws p)

/-- The larger of zero and the sum of two slots: a part of the result. -/
def outV (p : Fin 3) (a b : Vec F (slotSh p) .f32) : Vec F (wSh p) .f32 :=
  maximumf (φ := .f32) (addf (φ := .f32) (shapeCast (wSh p) a (casts_sw p)) (shapeCast (wSh p) b (casts_sw p)))
    (broadcast (wSh p) (Scalar.ofBits .f32 0x00000000#32))

/-! ## The steps -/

variable (F) in
/-- Programs of the kernel over the float values `F`. -/
abbrev KProg (α : Type) := Prog (TpuEff nD τ sig (Elt F) Λ₀ .tc) α

/-- Where the kernel reads `x`. -/
abbrev xM : Memref sig .tc .vmem S2048x256 .f32 := Memref.whole cc0_stg0_0
/-- Where the kernel reads `w`. -/
abbrev wM : Memref sig .tc .vmem S256x2048 .f32 := Memref.whole cc0_stg1_0
/-- Where the kernel writes the result. -/
abbrev oM : Memref sig .tc .vmem S256x2048 .f32 := Memref.whole cc0_stg2_0

/-- Read accumulator slot `t`. -/
def loadAcc (p : Fin 3) (t : Fin 8) : KProg F (Vec F (slotSh p) .f32) :=
  Prog.lift (.load (accM p) (accRect p t).toLoadRect (View.loadsAt_vmem (numel_slot p)))
/-- Write accumulator slot `t`. -/
def storeAcc (p : Fin 3) (t : Fin 8) (v : Vec F (slotSh p) .f32) : KProg F PUnit :=
  Prog.lift (.store (accM p) (accRect p t) v Finset.univ (View.stores_vmem_bits_univ (numel_slot p) rfl) (.inl rfl))
/-- Read landing slot `s`. -/
def loadRcv (p : Fin 3) (s : Fin 7) : KProg F (Vec F (slotSh p) .f32) :=
  Prog.lift (.load (rcvM p) (rcvRect p s).toLoadRect (View.loadsAt_vmem (numel_slot p)))

/-- Compute one product into accumulator slot `t`. -/
def gemm (p : Fin 3) (t : Fin 8) (c : Dev nD) : KProg F PUnit := do
  let a ← (Prog.lift (.load xM (xRect p t c).toLoadRect (View.loadsAt_vmem h_S256x256)) : KProg F (Vec F S256x256 .f32))
  let b ← (Prog.lift (.load wM (partRect p).toLoadRect (View.loadsAt_vmem (numel_w p))) : KProg F (Vec F (wSh p) .f32))
  let _ ← loadAcc p t
  storeAcc p t (prodV p a b)

/-- Start transfer `(p, j)`. -/
def send (p : Fin 3) (j : Fin 7) (c : Dev nD) : KProg F PUnit :=
  Prog.lift (.enqueueDma (accSlot p (srcSlot j)) (.remote (Dev.tc (sendDev p j c)) (rcvSlot p (dstSlot j)) (.dma (sSem p j))) (.dma (rSem p j))
    (View.wordExact_bits rfl) (View.wordExact_bits rfl) ⟨⟨rfl, Or.inl rfl⟩, trivial⟩)

/-- Wait for the neighbour's transfer `(p, j)` to land. -/
def waitR (p : Fin 3) (j : Fin 7) : KProg F PUnit :=
  Prog.lift (.waitDma2 (rSem p j) (accSlot p (srcSlot j)) (rcvSlot p (dstSlot j)) (View.wordExact_bits rfl) (View.wordExact_bits rfl))

/-- Wait for the own transfer `(p, j)` to have left. -/
def waitS (p : Fin 3) (j : Fin 7) : KProg F PUnit :=
  Prog.lift (.waitDma2 (sSem p j) (rcvSlot p (dstSlot j)) (accSlot p (srcSlot j)) (View.wordExact_bits rfl) (View.wordExact_bits rfl))

/-- Add what transfer `j` brought to accumulator slot `t`. -/
def addStep (p : Fin 3) (t : Fin 8) (j : Fin 7) : KProg F PUnit := do
  let a ← loadAcc p t
  let b ← loadRcv p (dstSlot j)
  let _ ← loadAcc p t
  storeAcc p t (addV p a b)

/-- Write part `p` of the result: slot 0 with what the last transfer brought. -/
def outStep (p : Fin 3) : KProg F PUnit := do
  let a ← loadAcc p 0
  let b ← loadRcv p (dstSlot 6)
  let _ ← (Prog.lift (.load oM (partRect p).toLoadRect (View.loadsAt_vmem (numel_w p))) : KProg F (Vec F (wSh p) .f32))
  Prog.lift (.store oM (partRect p) (outV p a b) Finset.univ (View.stores_vmem_bits_univ (numel_w p) rfl) (.inl rfl))

/-- One program for each part, in order. -/
def forParts (a : Fin 3 → KProg F PUnit) : KProg F PUnit := a 0 >>= fun _ => a 1 >>= fun _ => a 2

/-- The entry handshake: signal the three neighbours, wait for three. -/
def handshake (c : Dev nD) : KProg F PUnit := do
  semSignalWord (nbrDev 0 c) (SemArray.scalar (sig.barrier 0 rfl) : Sems sig S_).sem 1#32
  semSignalWord (nbrDev 1 c) (SemArray.scalar (sig.barrier 0 rfl) : Sems sig S_).sem 1#32
  semSignalWord (nbrDev 2 c) (SemArray.scalar (sig.barrier 0 rfl) : Sems sig S_).sem 1#32
  semWaitWord (SemArray.scalar (sig.barrier 0 rfl) : Sems sig S_).sem 3#32

/-- Compute a product and send it. -/
def gemmSend (j : Fin 7) (c : Dev nD) (p : Fin 3) : KProg F PUnit := gemm p (srcSlot j) c >>= fun _ => send p j c
/-- Wait for a transfer and add what it brought. -/
def recvAdd (j : Fin 7) (t : Fin 8) (p : Fin 3) : KProg F PUnit := waitR p j >>= fun _ => addStep p t j
/-- Wait for a transfer, add what it brought, and send the sum on. -/
def recvAddSend (j j' : Fin 7) (c : Dev nD) (p : Fin 3) : KProg F PUnit :=
  recvAdd j (srcSlot j') p >>= fun _ => send p j' c

/-- The whole body on device `c`. -/
def steps (c : Dev nD) : KProg F PUnit := Pipeline.chain
  [ handshake c,
    forParts (gemmSend 0 c), forParts (gemmSend 1 c), forParts (gemmSend 2 c), forParts (gemmSend 3 c),
    forParts (fun p => gemm p 3 c), forParts (fun p => gemm p 2 c), forParts (fun p => gemm p 1 c), forParts (fun p => gemm p 0 c),
    forParts (recvAddSend 0 4 c), forParts (recvAddSend 1 5 c), forParts (recvAdd 2 1), forParts (recvAddSend 4 6 c),
    forParts (recvAdd 3 0), forParts (recvAdd 5 0),
    forParts (fun p => waitR p 6 >>= fun _ => outStep p),
    forParts (fun p => waitS p 0), forParts (fun p => waitS p 1), forParts (fun p => waitS p 2), forParts (fun p => waitS p 3),
    forParts (fun p => waitS p 4), forParts (fun p => waitS p 5), forParts (fun p => waitS p 6) ]

/-- The body: read the own device number, then the steps. -/
def body : KProg F PUnit := Prog.lift .deviceId >>= fun c => steps c

set_option maxRecDepth 100000 in
/-- The printed body is the sequence of named steps. -/
theorem body_eq : bodyAt0 (F := F) t0_0 = body := by
  chain_rfl

end Cert.Reduce

end
-- ==== Proof.Protocol.lean ====
/-
# The protocol: what each slot holds, and what each semaphore hands over

Device `c` multiplies its columns of `x` with its rows of `w`. Slot `t` of part `p` starts as the product for row
block `chunk p t c`. Seven transfers then halve the work three times: transfer `(p, j)` sends slot `srcSlot j` to
`peer p j c`, which adds what lands to its own slot.

Each device has one barrier cell, and for every transfer a send cell and a receive cell.

* The barrier cell of `c` gets one unit from each neighbour. The unit from direction `d` hands `c` the landing
  slots, on that neighbour, of the transfers `c` sends in direction `d`.
* The send cell of transfer `(p, j)` hands back the slot that was sent.
* The receive cell of transfer `(p, j)` hands over the landing slot with the peer's value.

A device may wait at its receive cell for transfer `j` while it still owes later transfers only. So the level of
a receive cell grows with `j`, and the barrier lies below all of them.
-/
module

public import proofs.«01_k».proof.Proof.Prog
public import Idealize.ShloMosaic.Lib.Pipeline.Launch
public import Idealize.ShloMosaic.Lib.Pipeline.Kit
public import Idealize.ShloMosaic.Lib.Tactic
public import Idealize.ShloMosaic.Lib.MemrefSat

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The algebra of the rounds: each duty has one of three numbers. -/
abbrev UB : Type := URounds (GSem nD τ sig) (Fin 3)
/-- The algebra of the pipeline next to the algebra of the rounds. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Values -/

section Values

variable (X : Dev nD → Vec F S2048x256 .f32) (W : Dev nD → Vec F S256x2048 .f32)

/-- The rows of `x` that device `c` reads for slot `t` of part `p`. -/
def readX (p : Fin 3) (t : Fin 8) (c : Dev nD) : Vec F S256x256 .f32 := fun i => X c ((xRect p t c).emb i)
/-- The columns of `w` of part `p` on device `c`. -/
def readW (p : Fin 3) (c : Dev nD) : Vec F (wSh p) .f32 := fun i => W c ((partRect p).emb i)
/-- The product device `c` puts into slot `t` of part `p`. -/
def G (p : Fin 3) (t : Fin 8) (c : Dev nD) : Vec F (slotSh p) .f32 := prodV p (readX X p t c) (readW W p c)
/-- Slot `t` after the first exchange, which brings the peer's slot `srcSlot j`. -/
def A1 (p : Fin 3) (t : Fin 8) (j : Fin 7) (c : Dev nD) : Vec F (slotSh p) .f32 :=
  addV p (G X W p t c) (G X W p (srcSlot j) (peer p j c))
/-- Slot 1 after the second exchange. -/
def B1 (p : Fin 3) (c : Dev nD) : Vec F (slotSh p) .f32 := addV p (A1 X W p 1 2 c) (A1 X W p 3 0 (peer p 4 c))
/-- Slot 0 after the second exchange. -/
def B0 (p : Fin 3) (c : Dev nD) : Vec F (slotSh p) .f32 := addV p (A1 X W p 0 3 c) (A1 X W p 2 1 (peer p 5 c))
/-- What device `c` sends in transfer `(p, j)`. -/
def S (p : Fin 3) (j : Fin 7) (c : Dev nD) : Vec F (slotSh p) .f32 :=
  match j with
  | 0 => G X W p (srcSlot 0) c
  | 1 => G X W p (srcSlot 1) c
  | 2 => G X W p (srcSlot 2) c
  | 3 => G X W p (srcSlot 3) c
  | 4 => A1 X W p 3 0 c
  | 5 => A1 X W p 2 1 c
  | 6 => B1 X W p c
/-- What transfer `(p, j)` brings to device `c`. -/
def L (p : Fin 3) (j : Fin 7) (c : Dev nD) : Vec F (slotSh p) .f32 := S X W p j (peer p j c)
/-- Part `p` of the result on device `c`. -/
def outP (p : Fin 3) (c : Dev nD) : Vec F (wSh p) .f32 := outV p (B0 X W p c) (B1 X W p (peer p 6 c))

end Values

/-! ## Cells -/

/-- The barrier semaphore. -/
abbrev barS : Sem sig := (SemArray.scalar (sig.barrier 0 rfl) : Sems sig S_).sem
/-- The semaphores of the transfers: the send semaphores under `false`, the receive semaphores under `true`. -/
def osem (k : Bool × Fin 3 × Fin 7) : SemLoc sig := if k.1 then .dma (rSem k.2.1 k.2.2) else .dma (sSem k.2.1 k.2.2)
/-- All semaphores of the protocol; `none` is the barrier. -/
def csem : Option (Bool × Fin 3 × Fin 7) → SemLoc sig
  | none => .reg barS
  | some k => osem k
/-- The cell of a semaphore on a device. -/
abbrev kcell (ck : Dev nD × Option (Bool × Fin 3 × Fin 7)) : GSem nD τ sig := ((ck.1 : Thread nD τ), csem ck.2)

abbrev barCell (c : Dev nD) : GSem nD τ sig := ((c : Thread nD τ), .reg barS)
abbrev sendCell (p : Fin 3) (j : Fin 7) (c : Dev nD) : GSem nD τ sig := ((c : Thread nD τ), .dma (sSem p j))
abbrev recvCell (p : Fin 3) (j : Fin 7) (c : Dev nD) : GSem nD τ sig := ((c : Thread nD τ), .dma (rSem p j))

/-- The credit of one slot of part `p`. -/
def cr (p : Fin 3) : ℕ := (rcvSlot p 0).view.dmaCredit
theorem cr_pos (p : Fin 3) : 0 < cr p := View.dmaCredit_pos _ (numel_slot p)
theorem cr_rcv (p : Fin 3) (s : Fin 7) : (rcvSlot p s).view.dmaCredit = cr p := by
  revert p; intro p; fin_cases p <;> rfl
theorem cr_acc (p : Fin 3) (t : Fin 8) : (accSlot p t).view.dmaCredit = cr p := by
  revert p; intro p; fin_cases p <;> rfl

/-- The transfer with the `k`-th semaphore. -/
def dec (k : ℕ) : Fin 3 × Fin 7 := (⟨k / 7 % 3, Nat.mod_lt _ (by decide)⟩, ⟨k % 7, Nat.mod_lt _ (by decide)⟩)
theorem dec_mk (p : Fin 3) (j : Fin 7) : dec (7 * p.val + j.val) = (p, j) := by revert p j; decide

/-! ## The schedule -/

/-- Accumulator slot `t` of part `p` on device `c` holds `v`. -/
def accAt (p : Fin 3) (t : Fin 8) (c : Dev nD) (v : Vec F (slotSh p) .f32) : sProp 𝕄 :=
  owns (c : Thread nD τ) (accSlot p t) fullShare v
/-- Landing slot `s` of part `p` on device `c` holds `v`. -/
def rcvAt (p : Fin 3) (s : Fin 7) (c : Dev nD) (v : Vec F (slotSh p) .f32) : sProp 𝕄 :=
  owns (c : Thread nD τ) (rcvSlot p s) fullShare v

instance accAt_storable (p : Fin 3) (t : Fin 8) (c : Dev nD) (v : Vec F (slotSh p) .f32) :
    BI.Storable (upEmb : UEmb _ 𝕄) (accAt p t c v) := by unfold accAt; infer_instance
instance rcvAt_storable (p : Fin 3) (s : Fin 7) (c : Dev nD) (v : Vec F (slotSh p) .f32) :
    BI.Storable (upEmb : UEmb _ 𝕄) (rcvAt p s c v) := by unfold rcvAt; infer_instance

/-- The landing slots on `c'` of the transfers sent in direction `d`, with any contents. -/
def lend (d : Fin 3) (c' : Dev nD) : sProp 𝕄 :=
  bigSep (Finset.univ.filter fun x : Fin 3 × Fin 7 => dim x.1 (rnd x.2) = d) fun x => iprop(∃ v, rcvAt (F := F) x.1 (dstSlot x.2) c' v)

instance lend_storable (d : Fin 3) (c' : Dev nD) : BI.Storable (upEmb : UEmb _ 𝕄) (lend (F := F) d c') := by unfold lend; infer_instance

variable (X : Dev nD → Vec F S2048x256 .f32) (W : Dev nD → Vec F S256x2048 .f32)

/-- One round. A barrier cell has three duties of one unit, one for each direction. A send or receive cell has the
    duty 0, of the slot's credit. -/
def rd : Rounds.Schedule (GSem nD τ sig) (Fin 3) 𝕄 where
  duties g r := if r = 0 ∧ g.1.2 = .tc then (match g.2 with
    | .reg _ => Finset.univ
    | .dma q => if 3 ≤ q.val then {0} else ∅) else ∅
  unitless _ := False
  amount g _ _ := match g.2 with
    | .reg _ => 1
    | .dma q => if q.val < 24 then cr (dec (q.val - 3)).1 else cr (dec (q.val - 24)).1
  payload g _ d := match g.2 with
    | .reg _ => lend d (flip d g.1.1)
    | .dma q => if q.val < 24 then accAt (dec (q.val - 3)).1 (srcSlot (dec (q.val - 3)).2) g.1.1 (S X W (dec (q.val - 3)).1 (dec (q.val - 3)).2 g.1.1)
        else rcvAt (dec (q.val - 24)).1 (dstSlot (dec (q.val - 24)).2) g.1.1 (L X W (dec (q.val - 24)).1 (dec (q.val - 24)).2 g.1.1)
  amount_pos g _ _ _ := by
    rcases g with ⟨_, _ | q⟩
    · exact Nat.one_pos
    · dsimp only; split <;> exact cr_pos _

instance rd_payload_storable (g : GSem nD τ sig) (r : ℕ) (d : Fin 3) : BI.Storable (upEmb : UEmb _ 𝕄) ((rd (F := F) X W).payload g r d) := by
  rcases g with ⟨t, s | q⟩
  · show BI.Storable upEmb (lend d (flip d t.1)); infer_instance
  · show BI.Storable upEmb (if q.val < 24 then accAt (dec (q.val - 3)).1 (srcSlot (dec (q.val - 3)).2) t.1 (S X W (dec (q.val - 3)).1 (dec (q.val - 3)).2 t.1)
        else rcvAt (dec (q.val - 24)).1 (dstSlot (dec (q.val - 24)).2) t.1 (L X W (dec (q.val - 24)).1 (dec (q.val - 24)).2 t.1))
    split <;> infer_instance

section Sched
variable (c : Dev nD) (p : Fin 3) (j : Fin 7)

theorem sSem_val : (sSem p j).val = 3 + (7 * p.val + j.val) := by rw [sSem_eq]
theorem rSem_val : (rSem p j).val = 24 + (7 * p.val + j.val) := by rw [rSem_eq]
theorem sSem_lt : (sSem p j).val < 24 := by rw [sSem_val]; have := p.isLt; have := j.isLt; omega
theorem rSem_nlt : ¬ (rSem p j).val < 24 := by rw [rSem_val]; omega
theorem dec_s : dec ((sSem p j).val - 3) = (p, j) := by rw [sSem_val, Nat.add_sub_cancel_left, dec_mk]
theorem dec_r : dec ((rSem p j).val - 24) = (p, j) := by rw [rSem_val, Nat.add_sub_cancel_left, dec_mk]

theorem duties_bar : (rd (F := F) X W).duties (barCell c) 0 = Finset.univ := by dsimp only [rd]; exact if_pos ⟨rfl, rfl⟩
theorem duties_send : (rd (F := F) X W).duties (sendCell p j c) 0 = {0} := by
  dsimp only [rd]; rw [if_pos ⟨rfl, rfl⟩, if_pos (by rw [sSem_val]; omega)]
theorem duties_recv : (rd (F := F) X W).duties (recvCell p j c) 0 = {0} := by
  dsimp only [rd]; rw [if_pos ⟨rfl, rfl⟩, if_pos (by rw [rSem_val]; omega)]
theorem duties_later (g : GSem nD τ sig) : ∀ r, 1 ≤ r → (rd (F := F) X W).duties g r = ∅ :=
  fun r hr => by dsimp only [rd]; rw [if_neg fun h => by omega]

theorem amount_bar (d : Fin 3) : (rd (F := F) X W).amount (barCell c) 0 d = 1 := rfl
theorem amount_send (d : Fin 3) : (rd (F := F) X W).amount (sendCell p j c) 0 d = cr p := by
  dsimp only [rd]; rw [if_pos (sSem_lt p j), dec_s]
theorem amount_recv (d : Fin 3) : (rd (F := F) X W).amount (recvCell p j c) 0 d = cr p := by
  dsimp only [rd]; rw [if_neg (rSem_nlt p j), dec_r]

theorem expect_bar : (rd (F := F) X W).expect (barCell c) 0 = 3 := by
  unfold Schedule.expect Schedule.amountOf
  rw [duties_bar]; simp only [amount_bar]; rfl
theorem expect_send : (rd (F := F) X W).expect (sendCell p j c) 0 = cr p := by
  unfold Schedule.expect Schedule.amountOf; rw [duties_send, Finset.sum_singleton, amount_send]
theorem expect_recv : (rd (F := F) X W).expect (recvCell p j c) 0 = cr p := by
  unfold Schedule.expect Schedule.amountOf; rw [duties_recv, Finset.sum_singleton, amount_recv]

theorem payload_bar (d : Fin 3) : (rd (F := F) X W).payload (barCell c) 0 d = lend d (flip d c) := by dsimp only [rd]
theorem payload_send (d : Fin 3) : (rd (F := F) X W).payload (sendCell p j c) 0 d = accAt p (srcSlot j) c (S X W p j c) := by
  dsimp only [rd]; rw [if_pos (sSem_lt p j), dec_s]
theorem payload_recv (d : Fin 3) : (rd (F := F) X W).payload (recvCell p j c) 0 d = rcvAt p (dstSlot j) c (L X W p j c) := by
  dsimp only [rd]; rw [if_neg (rSem_nlt p j), dec_r]

theorem rest_bar : bigSep ((rd (F := F) X W).duties (barCell c) 0 \ ∅) (fun d => (rd (F := F) X W).payload (barCell c) 0 d)
    = bigSep Finset.univ fun d => lend d (flip d c) := by
  rw [Finset.sdiff_empty, duties_bar]; rfl
theorem rest_send : bigSep ((rd (F := F) X W).duties (sendCell p j c) 0 \ ∅) (fun d => (rd (F := F) X W).payload (sendCell p j c) 0 d)
    = accAt p (srcSlot j) c (S X W p j c) := by
  rw [Finset.sdiff_empty, duties_send, bigSep_singleton, payload_send]
theorem rest_recv : bigSep ((rd (F := F) X W).duties (recvCell p j c) 0 \ ∅) (fun d => (rd (F := F) X W).payload (recvCell p j c) 0 d)
    = rcvAt p (dstSlot j) c (L X W p j c) := by
  rw [Finset.sdiff_empty, duties_recv, bigSep_singleton, payload_recv]

end Sched

/-! ## What a device owes, and the levels -/

/-- The transfers in the order a device starts them: by `j`, and by part within one `j`. -/
def order : List (Fin 3 × Fin 7) := (List.finRange 7).flatMap fun j => (List.finRange 3).map fun p => (p, j)
/-- What a device owes for a list of transfers it has still to start. -/
def debt (l : List (Fin 3 × Fin 7)) (c : Dev nD) : CellTallies nD τ sig Unit :=
  (l.map fun x => tallyAt (recvCell x.1 x.2 (peer x.1 x.2 c)) () (cr x.1)).sum
/-- What a device owes at the start: the transfers and one unit to each neighbour's barrier. -/
def O₀ (c : Dev nD) : CellTallies nD τ sig Unit :=
  debt order c + tallyAt (barCell (flip 2 c)) () 1 + tallyAt (barCell (flip 1 c)) () 1 + tallyAt (barCell (flip 0 c)) () 1

theorem order_drop (p : Fin 3) (j : Fin 7) : order.drop (3 * j.val + p.val) = (p, j) :: order.drop (3 * j.val + (p.val + 1)) := by
  revert p j; decide
theorem order_drop_all : order.drop 21 = [] := by decide

theorem debt_cons (x : Fin 3 × Fin 7) (l : List (Fin 3 × Fin 7)) (c : Dev nD) :
    debt (x :: l) c = debt l c + tallyAt (recvCell x.1 x.2 (peer x.1 x.2 c)) () (cr x.1) := by
  unfold debt; rw [List.map_cons, List.sum_cons, add_comm]

/-- A cell with something owed for a list of transfers is the receive cell of one of them. -/
theorem debt_pos {l : List (Fin 3 × Fin 7)} {c : Dev nD} {g : GSem nD τ sig} {u : Unit} (h : 0 < debt l c g u) :
    ∃ x ∈ l, g = recvCell x.1 x.2 (peer x.1 x.2 c) := by
  induction l with
  | nil => exact absurd h (Nat.lt_irrefl 0)
  | cons x l ih =>
    rw [debt_cons, Pi.add_apply, Finsupp.add_apply, tallyAt_apply] at h
    by_cases hx : g = recvCell x.1 x.2 (peer x.1 x.2 c)
    · exact ⟨x, List.mem_cons_self, hx⟩
    · rw [if_neg fun h' => hx h'.1, Nat.add_zero] at h
      obtain ⟨y, hy, hg⟩ := ih h
      exact ⟨y, List.mem_cons_of_mem _ hy, hg⟩

theorem O₀_pos {c : Dev nD} {g : GSem nD τ sig} {u : Unit} (h : 0 < O₀ c g u) :
    (∃ d, g = barCell (flip d c)) ∨ ∃ x ∈ order, g = recvCell x.1 x.2 (peer x.1 x.2 c) := by
  unfold O₀ at h
  by_cases hb : ∃ d, g = barCell (flip d c)
  · exact Or.inl hb
  · have hd (d : Fin 3) : ¬ (g = barCell (flip d c) ∧ u = ()) := fun h' => hb ⟨d, h'.1⟩
    rw [Pi.add_apply, Finsupp.add_apply, Pi.add_apply, Finsupp.add_apply, Pi.add_apply, Finsupp.add_apply,
      tallyAt_apply, tallyAt_apply, tallyAt_apply, if_neg (hd 0), if_neg (hd 1), if_neg (hd 2)] at h
    simp only [Nat.add_zero] at h
    exact Or.inr (debt_pos h)

/-- Which cells have a level. -/
def Lv (g : GSem nD τ sig) : Finset Unit := if g.1.2 = .tc then {()} else ∅
/-- The levels: the barrier at 1, the receive cell of transfer `j` at `2 + j`, the others at 0. -/
def lv (g : GSem nD τ sig) (_ : Unit) : ℕ := match g.2 with
  | .reg _ => 1
  | .dma q => if q.val < 24 then 0 else 2 + (dec (q.val - 24)).2.val

theorem Lv_of_ne (g : GSem nD τ sig) (h : g.1.2 ≠ .tc) : Lv g = ∅ := if_neg h
theorem Lv_tc (c : Dev nD) (sm : SemLoc sig) : Lv ((c : Thread nD τ), sm) = {()} := if_pos rfl
theorem lv_recv (p : Fin 3) (j : Fin 7) (c : Dev nD) (u : Unit) : lv (recvCell p j c) u = 2 + j.val := by
  dsimp only [lv]; rw [if_neg (rSem_nlt p j), dec_r]
theorem lv_bar (c : Dev nD) (u : Unit) : lv (barCell c) u = 1 := rfl
theorem lv_low (c : Dev nD) (q : DmaSem sig) (hq : q.val < 24) (u : Unit) : lv ((c : Thread nD τ), .dma q) u = 0 := by
  dsimp only [lv]; rw [if_pos hq]

/-- A device that owes later transfers only may wait at a cell of a lower level. -/
theorem mayWait_debt (c : Dev nD) (sm : SemLoc sig) (b : ℕ) (hb : lv ((c : Thread nD τ), sm) () ≤ b) (l : List (Fin 3 × Fin 7))
    (hl : ∀ x ∈ l, b < 2 + x.2.val) : (levAts Lv lv : sProp 𝕄) ⊢ MayWait (c : Thread nD τ) sm () (debt l c) :=
  MayOwe.of_cut (L := Lv) (lev := lv) b (fun p hp => by rw [Finset.mem_singleton.mp hp, Lv_tc]; exact Finset.mem_singleton_self _)
    (fun g u hg => by obtain ⟨x, -, rfl⟩ := debt_pos hg; exact Finset.mem_singleton_self _)
    (fun p hp => by rw [Finset.mem_singleton.mp hp]; exact hb)
    (fun g u hg => by obtain ⟨x, hx, rfl⟩ := debt_pos hg; rw [lv_recv]; exact hl x hx)

/-- The pipeline's own waits, before and after the body. -/
theorem mayWait_stage (c : Dev nD) (q : DmaSem sig) (hq : q.val < 24) (O : CellTallies nD τ sig Unit) (hO : O = O₀ c ∨ O = 0) :
    (levAts Lv lv : sProp 𝕄) ⊢ MayWait (c : Thread nD τ) (.dma q) () O := by
  rcases hO with rfl | rfl
  · refine MayOwe.of_cut (L := Lv) (lev := lv) 0 (fun p hp => by rw [Finset.mem_singleton.mp hp, Lv_tc]; exact Finset.mem_singleton_self _)
      (fun g u hg => by rcases O₀_pos hg with ⟨d, rfl⟩ | ⟨x, -, rfl⟩ <;> exact Finset.mem_singleton_self _)
      (fun p hp => by rw [Finset.mem_singleton.mp hp, lv_low c q hq])
      (fun g u hg => by
        rcases O₀_pos hg with ⟨d, rfl⟩ | ⟨x, -, rfl⟩
        · rw [lv_bar]; exact Nat.one_pos
        · rw [lv_recv]; omega)
  · rw [MayWait_zero]; iintro -; iempintro

end Cert.Reduce

end
-- ==== Proof.Steps.lean ====
/-
# One step of the body at a time

For each small program of the body, what it needs and what it leaves. Everything is stated at one device `c`,
part `p`, transfer `j` and slot `t`, and used later for every one of them.
-/
module

public import proofs.«01_k».proof.Proof.Protocol

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## Loads and stores of a named piece of memory -/

section Access

variable (c : Dev nD) {cs : CoreSpace} {s : Shape} {e : EltTy} {m : Memref sig .tc cs s e} {r : Rect s}
variable {q : PosShare TreeShare} {v : s.Idx → Elt F e}

/-- Reading a rectangle of memory that holds `v` gives `v` there. -/
theorem load_owns {hl : m.view.LoadsAt r.toLoadRect} {k : (r.shape.Idx → Elt F e) → KProg F PUnit} {Q : PUnit → sProp 𝕄} :
    (owns (c : Thread nD τ) m q v : sProp 𝕄)
      ⊢ iprop((owns (c : Thread nD τ) m q v
            -∗ wp frame (wpE (defs₀ (F := F)) 𝒱₀ (c : Thread nD τ) none) Set.univ (k fun i => v (r.emb i)) Q)
          -∗ wp frame (wpE (defs₀ (F := F)) 𝒱₀ (c : Thread nD τ) none) Set.univ (.op (.load m r.toLoadRect hl) k) Q) := by
  unfold owns
  iintro ⟨%f, %hf, H⟩ Hk
  subst hf
  iapply (wp_load 𝒱₀ (c : Thread nD τ) none Set.univ (m := m) (S := m.view.set) (Finset.map_subset_map.mpr (Finset.subset_univ _))) $$ H
  iintro H
  iapply Hk
  iexists f
  isplitr; · ipureintro; rfl
  iexact H

variable {hr : ∀ a, r.stride a = 1} {u w : r.shape.Idx → Elt F e}

/-- Reading a slice of memory that holds `u` gives `u`. -/
theorem load_slice {hl : m.view.LoadsAt r.toLoadRect} {k : (r.shape.Idx → Elt F e) → KProg F PUnit} {Q : PUnit → sProp 𝕄} :
    (owns (c : Thread nD τ) (m.slice r hr) q u : sProp 𝕄)
      ⊢ iprop((owns (c : Thread nD τ) (m.slice r hr) q u
            -∗ wp frame (wpE (defs₀ (F := F)) 𝒱₀ (c : Thread nD τ) none) Set.univ (k u) Q)
          -∗ wp frame (wpE (defs₀ (F := F)) 𝒱₀ (c : Thread nD τ) none) Set.univ (.op (.load m r.toLoadRect hl) k) Q) := by
  unfold owns
  iintro ⟨%f, %hf, H⟩ Hk
  subst hf
  iapply (wp_load_rect 𝒱₀ (c : Thread nD τ) none Set.univ (m := m) (r := r) (Finset.Subset.refl _)) $$ H
  iintro H
  iapply Hk
  iexists f
  isplitr; · ipureintro; rfl
  iexact H

/-- Writing `w` over a slice leaves it holding `w`. -/
theorem store_slice {hx : (m.access r).Stores Finset.univ} {hm : (Finset.univ : Finset r.shape.Idx) = Finset.univ ∨ ∀ a, r.stride a = 1}
    {k : PUnit → KProg F PUnit} {Q : PUnit → sProp 𝕄} :
    (owns (c : Thread nD τ) (m.slice r hr) fullShare u : sProp 𝕄)
      ⊢ iprop((owns (c : Thread nD τ) (m.slice r hr) fullShare w
            -∗ wp frame (wpE (defs₀ (F := F)) 𝒱₀ (c : Thread nD τ) none) Set.univ (k ⟨⟩) Q)
          -∗ wp frame (wpE (defs₀ (F := F)) 𝒱₀ (c : Thread nD τ) none) Set.univ (.op (.store m r w Finset.univ hx hm) k) Q) := by
  unfold owns
  iintro ⟨%f, %hf, H⟩ Hk
  iapply (wp_store 𝒱₀ (c : Thread nD τ) none Set.univ (m := m) (r := r) (Mk := Finset.univ) (S := (m.access r).set) (Finset.Subset.refl _)) $$ H
  iintro H
  iapply Hk
  iexists _
  isplitr; · ipureintro; exact View.read_write_univ f w
  iexact H

end Access

/-! ## What every step may use -/

variable (X : Dev nD → Vec F S2048x256 .f32) (W : Dev nD → Vec F S256x2048 .f32)
variable (K : Dev nD × Option (Bool × Fin 3 × Fin 7) → ℕ)

/-- Every cell's invariant, and that every cell has reached its only round. -/
def records : sProp 𝕄 :=
  iprop((bigSep Finset.univ fun ck : Dev nD × Option (Bool × Fin 3 × Fin 7) => cellInv ER (rd X W) (K ck) (kcell ck))
    ∗ bigSep Finset.univ fun ck : Dev nD × Option (Bool × Fin 3 × Fin 7) => reached ER (kcell ck) 0)
instance records_persistent : BI.Persistent (records X W K) := by unfold records; infer_instance

/-- The records and the levels. -/
def Known : sProp 𝕄 := iprop(records X W K ∗ levAts Lv lv)
instance known_persistent : BI.Persistent (Known X W K) := by unfold Known; infer_instance

theorem known_inv (ck : Dev nD × Option (Bool × Fin 3 × Fin 7)) : Known X W K ⊢ cellInv ER (rd X W) (K ck) (kcell ck) := by
  unfold Known records
  iintro ⟨⟨H, -⟩, -⟩
  iapply (show (bigSep Finset.univ fun ck : Dev nD × Option (Bool × Fin 3 × Fin 7) => (cellInv ER (rd X W) (K ck) (kcell ck) : sProp 𝕄))
    ⊢ cellInv ER (rd X W) (K ck) (kcell ck) from bigSep_elim (Finset.mem_univ ck))
  iexact H
theorem known_reached (ck : Dev nD × Option (Bool × Fin 3 × Fin 7)) : Known X W K ⊢ reached ER (kcell ck) 0 := by
  unfold Known records
  iintro ⟨⟨-, H⟩, -⟩
  iapply (show (bigSep Finset.univ fun ck : Dev nD × Option (Bool × Fin 3 × Fin 7) => (reached ER (kcell ck) 0 : sProp 𝕄))
    ⊢ reached ER (kcell ck) 0 from bigSep_elim (Finset.mem_univ ck))
  iexact H
theorem known_lev : Known X W K ⊢ levAts Lv lv := by
  unfold Known; iintro ⟨-, H⟩; iexact H

/-! ## Triples -/

/-- Knowing the records, on device `c`, program `a` takes `P` to `R`. -/
def Tr (c : Dev nD) (P : sProp 𝕄) (a : KProg F PUnit) (R : sProp 𝕄) : Prop :=
  iprop(Known X W K ∗ P) ⊢ wp frame (wpE (defs₀ (F := F)) 𝒱₀ (c : Thread nD τ) none) Set.univ a (fun _ => R)

section Triples

variable {X W K}
variable {c : Dev nD} {P P' P'' R R' C : sProp (MT nD τ sig Unit (Elt F) ℕ UU ℕ)} {a b : KProg F PUnit}

/-- A triple as an entailment. -/
theorem Tr.use (h : Tr X W K c P a R) :
    iprop(Known X W K ∗ P) ⊢ wp frame (wpE (defs₀ (F := F)) 𝒱₀ (c : Thread nD τ) none) Set.univ a (fun _ => R) := h

/-- A step at the head of a longer program. -/
theorem Tr.apply (h : Tr X W K c P a R) {b : PUnit → KProg F PUnit} {Q : PUnit → sProp 𝕄} :
    iprop(Known X W K ∗ P)
      ⊢ iprop((R -∗ wp frame (wpE (defs₀ (F := F)) 𝒱₀ (c : Thread nD τ) none) Set.univ (b ⟨⟩) Q)
          -∗ wp frame (wpE (defs₀ (F := F)) 𝒱₀ (c : Thread nD τ) none) Set.univ (a >>= b) Q) := by
  iintro H Hk
  rw [wp_bind]
  ihave H := h.use $$ H
  iapply (wp_wand frame (wpE (defs₀ (F := F)) 𝒱₀ (c : Thread nD τ) none) Set.univ) $$ H
  iintro %u H
  iapply Hk
  iexact H

theorem Tr.seq (h₁ : Tr X W K c P a P') (h₂ : Tr X W K c P' b R) : Tr X W K c P (a >>= fun _ => b) R := by
  unfold Tr
  iintro ⟨#HK, HP⟩
  iapply h₁.apply $$ [HP]
  · isplitr; · iexact HK
    iexact HP
  iintro HR
  iapply h₂.use
  isplitr; · iexact HK
  iexact HR

theorem Tr.conseq (h : Tr X W K c P a R) (hP : P' ⊢ P) (hR : R ⊢ R') : Tr X W K c P' a R' :=
  (sep_mono_right hP).trans (h.use.trans (wp_mono frame _ _ fun _ => hR))

theorem Tr.keep (h : Tr X W K c P a R) : Tr X W K c iprop(P ∗ C) a iprop(R ∗ C) := by
  unfold Tr
  iintro ⟨HK, HP, HC⟩
  iapply (wp_frame_r frame (wpE (defs₀ (F := F)) 𝒱₀ (c : Thread nD τ) none) Set.univ)
  isplitr [HC]
  · iapply h.use
    isplitl [HK]; · iexact HK
    iexact HP
  iexact HC

theorem bigSep_parts (Φ : Fin 3 → sProp 𝕄) : bigSep Finset.univ Φ = iprop(Φ 0 ∗ Φ 1 ∗ Φ 2) :=
  bigSep_univ_eq_bigSepL [0, 1, 2] (by decide) (by decide) Φ

/-- A step done for each part in turn, with something carried from each to the next. -/
theorem Tr.parts {A B : Fin 3 → sProp 𝕄} {D : ℕ → sProp 𝕄} {a : Fin 3 → KProg F PUnit}
    (h : ∀ p : Fin 3, Tr X W K c iprop(A p ∗ D p.val) (a p) iprop(B p ∗ D (p.val + 1))) :
    Tr X W K c iprop((bigSep Finset.univ A) ∗ D 0) (forParts a) iprop((bigSep Finset.univ B) ∗ D 3) := by
  rw [bigSep_parts, bigSep_parts]
  unfold Tr forParts
  iintro ⟨#HK, ⟨H0, H1, H2⟩, HD⟩
  have h0 : Tr X W K c iprop(A 0 ∗ D 0) (a 0) iprop(B 0 ∗ D 1) := h 0
  have h1 : Tr X W K c iprop(A 1 ∗ D 1) (a 1) iprop(B 1 ∗ D 2) := h 1
  have h2 : Tr X W K c iprop(A 2 ∗ D 2) (a 2) iprop(B 2 ∗ D 3) := h 2
  iapply h0.apply $$ [H0 HD]
  · isplitr; · iexact HK
    isplitl [H0]; · iexact H0
    iexact HD
  iintro ⟨H0, HD⟩
  iapply h1.apply $$ [H1 HD]
  · isplitr; · iexact HK
    isplitl [H1]; · iexact H1
    iexact HD
  iintro ⟨H1, HD⟩
  iapply Tr.use (show Tr X W K c iprop(B 0 ∗ B 1 ∗ A 2 ∗ D 2) (a 2) iprop((B 0 ∗ B 1 ∗ B 2) ∗ D 3) from
    (h2.keep (C := iprop(B 0 ∗ B 1))).conseq
      (by iintro ⟨H0, H1, H2, HD⟩
          isplitr [H0 H1]
          · isplitl [H2]; · iexact H2
            iexact HD
          isplitl [H0] <;> iassumption)
      (by iintro ⟨⟨H2, HD⟩, H0, H1⟩
          isplitr [HD]
          · isplitl [H0]; · iexact H0
            isplitl [H1] <;> iassumption
          iexact HD))
  isplitr; · iexact HK
  isplitl [H0]; · iexact H0
  isplitl [H1]; · iexact H1
  isplitl [H2]; · iexact H2
  iexact HD

end Triples

/-! ## What a device holds for a transfer -/

section Transfer

variable (p : Fin 3) (j : Fin 7) (c : Dev nD)

/-- The tokens device `c` pays with in transfer `(p, j)`, and its place at the send cell. -/
def toks : sProp 𝕄 :=
  iprop(dutyTok ER (sendCell p j c) 0 0 ∗ dutyTok ER (recvCell p j (peer p j c)) 0 0 ∗ atPos ER (sendCell p j c) 0 ∅ 0)
/-- The peer's landing slot, with any contents. -/
def lent : sProp 𝕄 := iprop(∃ v, rcvAt (F := F) p (dstSlot j) (peer p j c) v)
/-- After the start of the transfer: the place at the send cell and the credit to come. -/
def flying : sProp 𝕄 := iprop(atPos ER (sendCell p j c) 0 ∅ 0 ∗ cred (tallyAt (sendCell p j c) () (cr p)))
/-- The place at the send cell, its round over. -/
def gone : sProp 𝕄 := atPos ER (sendCell p j c) 1 ∅ 0
/-- Before the landing: the place at the receive cell and the credit to come. -/
def due : sProp 𝕄 := iprop(atPos ER (recvCell p j c) 0 ∅ 0 ∗ cred (tallyAt (recvCell p j c) () (cr p)))
/-- The place at the receive cell, its round over. -/
def come : sProp 𝕄 := atPos ER (recvCell p j c) 1 ∅ 0
/-- Device `c` owes the transfers from number `n` on. -/
def owing (n : ℕ) : sProp 𝕄 := iprop(∃ V, owes (c : Thread nD τ) (debt (order.drop n) c) V)
/-- An accumulator slot with any contents. -/
def accAny (t : Fin 8) : sProp 𝕄 := iprop(∃ v, accAt (F := F) p t c v)
/-- What the products read: the device's columns of `x` and rows of `w`. -/
def inputs : sProp 𝕄 :=
  iprop(owns (c : Thread nD τ) xM fullShare (X c) ∗ owns (c : Thread nD τ) wM fullShare (W c))

end Transfer

section Step

variable (p : Fin 3) (j : Fin 7) (t : Fin 8) (c : Dev nD)

/-- A product fills its slot. -/
theorem gemm_tr : Tr X W K c iprop(accAny (F := F) p c t ∗ inputs X W c) (gemm p t c) iprop(accAt p t c (G X W p t c) ∗ inputs X W c) := by
  unfold Tr accAny inputs accAt gemm loadAcc storeAcc
  simp only [Prog.lift, Prog.bind_op, Prog.bind_ret, Prog.pure_eq_ret]
  iintro ⟨-, ⟨%v, Ha⟩, Hx, Hw⟩
  iapply (load_owns c (m := xM) (r := xRect p t c)) $$ Hx; iintro Hx
  iapply (load_owns c (m := wM) (r := partRect p)) $$ Hw; iintro Hw
  iapply (load_slice c (m := accM p) (r := accRect p t)) $$ Ha; iintro Ha
  iapply (store_slice c (m := accM p) (r := accRect p t)) $$ Ha; iintro Ha
  rw [wp_ret]; imodintro
  isplitl [Ha]; · iexact Ha
  isplitl [Hx] <;> iassumption

/-- An addition: what a transfer brought is added to a slot. -/
theorem addStep_tr (v u : Vec F (slotSh p) .f32) :
    Tr X W K c iprop(accAt p t c v ∗ rcvAt p (dstSlot j) c u) (addStep p t j) iprop(accAt p t c (addV p v u) ∗ rcvAt p (dstSlot j) c u) := by
  unfold Tr accAt rcvAt addStep loadAcc loadRcv storeAcc
  simp only [Prog.lift, Prog.bind_op, Prog.bind_ret, Prog.pure_eq_ret]
  iintro ⟨-, Ha, Hr⟩
  iapply (load_slice c (m := accM p) (r := accRect p t)) $$ Ha; iintro Ha
  iapply (load_slice c (m := rcvM p) (r := rcvRect p (dstSlot j))) $$ Hr; iintro Hr
  iapply (load_slice c (m := accM p) (r := accRect p t)) $$ Ha; iintro Ha
  iapply (store_slice c (m := accM p) (r := accRect p t)) $$ Ha; iintro Ha
  rw [wp_ret]; imodintro
  isplitl [Ha] <;> iassumption

/-- Part `p` of the result buffer holds `v`. -/
def outAtP (v : Vec F (wSh p) .f32) : sProp 𝕄 := owns (c : Thread nD τ) (oM.slice (partRect p) (fun _ => rfl)) fullShare v

/-- The last step of a part fills its part of the result. -/
theorem outStep_tr (v u : Vec F (slotSh p) .f32) :
    Tr X W K c iprop((∃ w, outAtP p c w) ∗ accAt p 0 c v ∗ rcvAt p (dstSlot 6) c u) (outStep p)
      iprop(outAtP p c (outV p v u) ∗ accAt p 0 c v ∗ rcvAt p (dstSlot 6) c u) := by
  unfold Tr accAt rcvAt outAtP outStep loadAcc loadRcv
  simp only [Prog.lift, Prog.bind_op, Prog.bind_ret, Prog.pure_eq_ret]
  iintro ⟨-, ⟨%w, Ho⟩, Ha, Hr⟩
  iapply (load_slice c (m := accM p) (r := accRect p 0)) $$ Ha; iintro Ha
  iapply (load_slice c (m := rcvM p) (r := rcvRect p (dstSlot 6))) $$ Hr; iintro Hr
  iapply (load_slice c (m := oM) (r := partRect p)) $$ Ho; iintro Ho
  iapply (store_slice c (m := oM) (r := partRect p)) $$ Ho; iintro Ho
  rw [wp_ret]; imodintro
  isplitl [Ho]; · iexact Ho
  isplitl [Ha] <;> iassumption

/-- The rule for the start of transfer `(p, j)` to `n`, the peer. -/
theorem wp_send_peer (n : Dev nD) (hn : n = peer p j c) {hsc : (rcvSlot p (dstSlot j) : Memref sig (Dev.tc n : Thread nD τ).2.kind .vmem _ .f32).view.ref.isScScratch = false}
    {hsrc : (accSlot p (srcSlot j)).view.WordExact} {hdst : (rcvSlot p (dstSlot j)).view.WordExact}
    {hsem : DmaTarget.Typed .vmem (.dma (rSem p j)) (.remote (Dev.tc n : Thread nD τ) (rcvSlot p (dstSlot j)) (.dma (sSem p j)) hsc)}
    {Q : PUnit → sProp 𝕄} {k : PUnit → KProg F PUnit} {O : CellTallies nD τ sig Unit} {V : Waits sig Unit} (u : Vec F (slotSh p) .f32) :
    iprop(Known X W K ∗ accAt p (srcSlot j) c (S X W p j c) ∗ rcvAt p (dstSlot j) (peer p j c) u
        ∗ owes (c : Thread nD τ) (O + tallyAt (recvCell p j (peer p j c)) () (cr p)) V
        ∗ dutyTok ER (sendCell p j c) 0 0 ∗ dutyTok ER (recvCell p j (peer p j c)) 0 0)
      ⊢ iprop(((cred (tallyAt (sendCell p j c) () (cr p)) ∗ owes (c : Thread nD τ) O V)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (accSlot p (srcSlot j)) (.remote (Dev.tc n : Thread nD τ) (rcvSlot p (dstSlot j)) (.dma (sSem p j)) hsc) (.dma (rSem p j)) hsrc hdst hsem) k) Q) := by
  subst hn
  unfold accAt rcvAt owns
  iintro ⟨#HK, ⟨%fs, %hs, Hs⟩, ⟨%fd, -, Hd⟩, Ho, Ht, Ht'⟩
  iapply (Rounds.wp_send_pointsTo 𝒱₀ ER (rd X W) (c : Thread nD τ) none (κ₁ := K (c, some (false, p, j))) (κ₂ := K (peer p j c, some (true, p, j)))
    (r₁ := 0) (r₂ := 0) (d₁ := 0) (d₂ := 0) (fd := fd) (fs := fs)
    (by rw [duties_send]; exact Finset.mem_singleton_self _) (by rw [duties_recv]; exact Finset.mem_singleton_self _)
    () () (cr p) (by exact cr_rcv p (dstSlot j)) (amount_send X W c p j 0) (amount_recv X W (peer p j c) p j 0) O rfl (W := V)
    (by rw [payload_send, ← hs]; exact owns_intro _ _ _ _)
    (by rw [payload_recv]; unfold L; rw [peer_peer, ← hs]
        exact (owns_intro (peer p j c : Thread nD τ) (rcvSlot p (dstSlot j)) fullShare _).trans
          (Entails.of_eq (by rw [View.read_write_univ]; rfl)))) $$ [Hs Hd Ho Ht Ht']
  isplitr; · iapply (known_inv X W K (c, some (false, p, j))); iexact HK
  isplitr; · iapply (known_inv X W K (peer p j c, some (true, p, j))); iexact HK
  isplitl [Hs]; · iexact Hs
  isplitl [Hd]; · iexact Hd
  isplitl [Ho]; · iexact Ho
  isplitl [Ht]; · iexact Ht
  isplitr; · iapply (known_reached X W K (c, some (false, p, j))); iexact HK
  isplitl [Ht']; · iexact Ht'
  iapply (known_reached X W K (peer p j c, some (true, p, j))); iexact HK

/-- The start of a transfer: the slot and the peer's landing slot go, the credit of the send cell comes. -/
theorem send_tr : Tr X W K c iprop((toks p j c ∗ lent (F := F) p j c ∗ accAt p (srcSlot j) c (S X W p j c)) ∗ owing (F := F) c (3 * j.val + p.val))
    (send p j c) iprop(flying p j c ∗ owing c (3 * j.val + (p.val + 1))) := by
  unfold Tr toks lent owing flying send
  rw [order_drop, debt_cons]
  simp only [Prog.lift]
  iintro ⟨#HK, ⟨⟨Ht, Ht', Hat⟩, ⟨%u, Hr⟩, Ha⟩, ⟨%V, Ho⟩⟩
  iapply (wp_send_peer X W K p j c _ (sendDev_eq p j c) u) $$ [Ha Hr Ho Ht Ht']
  · isplitr; · iexact HK
    isplitl [Ha]; · iexact Ha
    isplitl [Hr]; · iexact Hr
    isplitl [Ho]; · iexact Ho
    isplitl [Ht] <;> iassumption
  iintro ⟨Hc, Ho⟩
  rw [wp_ret]; imodintro
  isplitr [Ho]
  · isplitl [Hat] <;> iassumption
  iexists V; iexact Ho

/-- A wait for a landing, while only later transfers are owed. -/
theorem waitR_tr (n : ℕ) (hn : ∀ x ∈ order.drop n, j.val < x.2.val) :
    Tr X W K c iprop(due (F := F) p j c ∗ owing c n) (waitR p j) iprop((come p j c ∗ rcvAt p (dstSlot j) c (L X W p j c)) ∗ owing c n) := by
  unfold Tr due owing come waitR
  simp only [Prog.lift]
  iintro ⟨#HK, ⟨Hat, Hc⟩, ⟨%V, Ho⟩⟩
  iapply (Rounds.wp_wait_rest_token 𝒱₀ ER (rd X W) (c : Thread nD τ) none (κ := K (c, some (true, p, j)))
      (wpE_waitDma2_eq 𝒱₀ (c : Thread nD τ) none Set.univ) (Set.mem_univ _) () (O := debt (order.drop n) c) (W := V) (R := 0) (m := 0) (T := ∅)
      (by rw [Nat.zero_add, expect_recv]; exact cr_rcv p (dstSlot j))) $$ [Hc Ho Hat]
  · isplitr; · iapply (known_inv X W K (c, some (true, p, j))); iexact HK
    isplitl [Hc]; · rw [cr_rcv]; iexact Hc
    isplitl [Ho]; · iexact Ho
    isplitr
    · iapply (mayWait_debt (F := F) c (.dma (rSem p j)) (2 + j.val) (Nat.le_of_eq (lv_recv p j c ())) (order.drop n) (fun x hx => Nat.add_lt_add_left (hn x hx) 2))
      iapply (known_lev X W K); iexact HK
    iexact Hat
  iintro ⟨Ho, Hat, -, Hpay⟩
  ihave Hr := (Entails.of_eq (rest_recv X W c p j)) $$ Hpay
  rw [wp_ret]; imodintro
  isplitr [Ho]
  · isplitl [Hat]; · iexact Hat
    iexact Hr
  iexists _; iexact Ho

/-- A wait for the own transfer, after all transfers have been started. -/
theorem waitS_tr : Tr X W K c iprop(flying (F := F) p j c ∗ owing c 21) (waitS p j) iprop((gone p j c ∗ accAt p (srcSlot j) c (S X W p j c)) ∗ owing c 21) := by
  unfold Tr flying owing gone waitS
  simp only [Prog.lift]
  iintro ⟨#HK, ⟨Hat, Hc⟩, ⟨%V, Ho⟩⟩
  iapply (Rounds.wp_wait_rest_token 𝒱₀ ER (rd X W) (c : Thread nD τ) none (κ := K (c, some (false, p, j)))
      (wpE_waitDma2_eq 𝒱₀ (c : Thread nD τ) none Set.univ) (Set.mem_univ _) () (O := debt (order.drop 21) c) (W := V) (R := 0) (m := 0) (T := ∅)
      (by rw [Nat.zero_add, expect_send]; exact cr_acc p (srcSlot j))) $$ [Hc Ho Hat]
  · isplitr; · iapply (known_inv X W K (c, some (false, p, j))); iexact HK
    isplitl [Hc]; · rw [cr_acc]; iexact Hc
    isplitl [Ho]; · iexact Ho
    isplitr
    · iapply (mayWait_debt (F := F) c (.dma (sSem p j)) 0 (Nat.le_of_eq (lv_low c (sSem p j) (sSem_lt p j) ())) (order.drop 21)
        (fun x hx => by omega))
      iapply (known_lev X W K); iexact HK
    iexact Hat
  iintro ⟨Ho, Hat, -, Hpay⟩
  ihave Hr := (Entails.of_eq (rest_send X W c p j)) $$ Hpay
  rw [wp_ret]; imodintro
  isplitr [Ho]
  · isplitl [Hat]; · iexact Hat
    iexact Hr
  iexists _; iexact Ho

end Step

/-! ## The handshake -/

section Handshake

variable (c : Dev nD)

/-- What device `c` has before the handshake: its place at its own barrier cell, the credit of three units, the tokens
    of its three signals, and its own landing slots. -/
def atDoor : sProp 𝕄 :=
  iprop(atPos ER (barCell c) 0 ∅ 0 ∗ cred (tallyAt (barCell c) () 3)
    ∗ (bigSep Finset.univ fun d : Fin 3 => dutyTok ER (barCell (flip d c)) 0 d)
    ∗ (bigSep Finset.univ fun d : Fin 3 => lend (F := F) d c))

/-- The entry signal in direction `d` lends the neighbour the landing slots it sends to. -/
theorem signal_tr (d : Fin 3) (O : CellTallies nD τ sig Unit) :
    Tr X W K c iprop((dutyTok ER (barCell (flip d c)) 0 d ∗ lend (F := F) d c) ∗ ∃ V, owes (c : Thread nD τ) (O + tallyAt (barCell (flip d c)) () 1) V)
      (semSignalWord (nbrDev d c) barS 1#32) iprop(∃ V, owes (c : Thread nD τ) O V) := by
  unfold Tr
  rw [nbrDev_eq]
  simp only [semSignalWord, Prog.lift]
  iintro ⟨#HK, ⟨Ht, Hl⟩, ⟨%V, Ho⟩⟩
  iapply (Rounds.wp_signal 𝒱₀ ER (rd X W) (c : Thread nD τ) none (dst := (flip d c : Thread nD τ)) (κ := K (flip d c, none))
      (d := d) (by rw [duties_bar]; exact Finset.mem_univ _) ((amount_bar X W (flip d c) d).trans (by decide)) () O rfl) $$ [Ho Ht Hl]
  · isplitr; · iapply (known_inv X W K (flip d c, none)); iexact HK
    isplitl [Ho]; · iexact Ho
    isplitl [Ht]; · iexact Ht
    isplitl [Hl]; · rw [payload_bar, flip_flip]; iexact Hl
    iapply (known_reached X W K (flip d c, none)); iexact HK
  iintro Ho
  rw [wp_ret]; imodintro
  iexists V; iexact Ho

/-- The wait for the three neighbours' signals brings the landing slots the own transfers go to. -/
theorem waitBar_tr :
    Tr X W K c iprop((atPos ER (barCell c) 0 ∅ 0 ∗ cred (tallyAt (barCell c) () 3)) ∗ owing (F := F) c 0)
      (semWaitWord barS 3#32) iprop((atPos ER (barCell c) 1 ∅ 0 ∗ bigSep Finset.univ fun d => lend d (flip d c)) ∗ owing c 0) := by
  unfold Tr owing
  simp only [semWaitWord, Prog.lift]
  iintro ⟨#HK, ⟨Hat, Hc⟩, ⟨%V, Ho⟩⟩
  iapply (Rounds.wp_wait_rest_token 𝒱₀ ER (rd X W) (c : Thread nD τ) none (κ := K (c, none))
      (wpE_semWait_eq 𝒱₀ (c : Thread nD τ) none Set.univ) (Set.mem_univ _) () (O := debt (order.drop 0) c) (W := V) (R := 0) (m := 0) (T := ∅)
      (by rw [expect_bar]; decide)) $$ [Hc Ho Hat]
  · isplitr; · iapply (known_inv X W K (c, none)); iexact HK
    isplitl [Hc]; · iexact Hc
    isplitl [Ho]; · iexact Ho
    isplitr
    · iapply (mayWait_debt (F := F) c (.reg barS) 1 (Nat.le_of_eq (lv_bar c ())) (order.drop 0) (fun x hx => by omega))
      iapply (known_lev X W K); iexact HK
    iexact Hat
  iintro ⟨Ho, Hat, -, Hpay⟩
  ihave Hr := (Entails.of_eq (rest_bar X W c)) $$ Hpay
  rw [wp_ret]; imodintro
  isplitr [Ho]
  · isplitl [Hat]; · iexact Hat
    iexact Hr
  iexists _; iexact Ho

/-- The landing slots lent by the neighbours, sorted by transfer. -/
theorem lend_lent : (bigSep Finset.univ fun d => lend (F := F) d (flip d c))
    = bigSep Finset.univ fun x : Fin 3 × Fin 7 => lent (F := F) x.1 x.2 c := by
  unfold lend
  rw [bigSep_congr (s := Finset.univ) fun d _ => bigSep_filter (M := 𝕄) Finset.univ (fun x : Fin 3 × Fin 7 => dim x.1 (rnd x.2) = d) _, bigSep_univ_comm]
  refine bigSep_congr fun x _ => ?_
  rw [← bigSep_filter, Finset.filter_eq, if_pos (Finset.mem_univ _), bigSep_singleton]
  rfl

/-- The own landing slots, sorted by the direction they are lent in. -/
theorem lend_own : (bigSep Finset.univ fun d => lend (F := F) d c)
    = bigSep Finset.univ fun x : Fin 3 × Fin 7 => iprop(∃ v, rcvAt (F := F) x.1 (dstSlot x.2) c v) := by
  unfold lend
  rw [bigSep_congr (s := Finset.univ) fun d _ => bigSep_filter (M := 𝕄) Finset.univ (fun x : Fin 3 × Fin 7 => dim x.1 (rnd x.2) = d) _, bigSep_univ_comm]
  refine bigSep_congr fun x _ => ?_
  rw [← bigSep_filter, Finset.filter_eq, if_pos (Finset.mem_univ _), bigSep_singleton]

/-- The whole handshake. -/
theorem handshake_tr :
    Tr X W K c iprop(atDoor (F := F) c ∗ ∃ V, owes (c : Thread nD τ) (O₀ c) V) (handshake c)
      iprop((atPos ER (barCell c) 1 ∅ 0 ∗ bigSep Finset.univ fun x : Fin 3 × Fin 7 => lent (F := F) x.1 x.2 c) ∗ owing c 0) := by
  unfold atDoor handshake Tr
  rw [bigSep_parts, bigSep_parts, ← lend_lent]
  unfold O₀
  iintro ⟨#HK, ⟨Hat, Hc, ⟨T0, T1, T2⟩, L0, L1, L2⟩, Ho⟩
  iapply (signal_tr X W K c 0 _).apply $$ [T0 L0 Ho]
  · isplitr; · iexact HK
    isplitl [T0 L0]
    · isplitl [T0] <;> iassumption
    iexact Ho
  iintro Ho
  iapply (signal_tr X W K c 1 _).apply $$ [T1 L1 Ho]
  · isplitr; · iexact HK
    isplitl [T1 L1]
    · isplitl [T1] <;> iassumption
    iexact Ho
  iintro Ho
  iapply (signal_tr X W K c 2 _).apply $$ [T2 L2 Ho]
  · isplitr; · iexact HK
    isplitl [T2 L2]
    · isplitl [T2] <;> iassumption
    iexact Ho
  iintro Ho
  iapply (waitBar_tr X W K c).use
  isplitr; · iexact HK
  isplitr [Ho]
  · isplitl [Hat] <;> iassumption
  iapply (Entails.of_eq (show iprop(∃ V, owes (c : Thread nD τ) (debt order c) V) = owing (F := F) c 0 from rfl))
  iexact Ho

end Handshake

end Cert.Reduce

end
-- ==== Proof.Body.lean ====
/-
# The whole body

First each step for all three parts, then the sequence of steps: from what the launch hands a device to its part of
the result, with every slot back and every round over.
-/
module

public import proofs.«01_k».proof.Proof.Steps

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x256 .f32) (W : Dev nD → Vec F S256x2048 .f32)
variable (K : Dev nD × Option (Bool × Fin 3 × Fin 7) → ℕ)

/-- The last step of a program. -/
theorem Tr.finish {X W K} {c : Dev nD} {P R R' : sProp 𝕄} {a : KProg F PUnit} (h : Tr X W K c P a R) :
    iprop(Known X W K ∗ P)
      ⊢ iprop((R -∗ R') -∗ wp frame (wpE (defs₀ (F := F)) 𝒱₀ (c : Thread nD τ) none) Set.univ a (fun _ => R')) := by
  iintro H Hk
  ihave H := h.use $$ H
  iapply (wp_wand frame (wpE (defs₀ (F := F)) 𝒱₀ (c : Thread nD τ) none) Set.univ) $$ H
  iintro %u H
  iapply Hk
  iexact H

/-- A step at the head of a sequence of steps. -/
theorem Tr.next {X W K} {c : Dev nD} {P R : sProp 𝕄} {a : KProg F PUnit} (h : Tr X W K c P a R) {l : List (KProg F PUnit)} {Q : PUnit → sProp 𝕄} :
    iprop(Known X W K ∗ P)
      ⊢ iprop((R -∗ wp frame (wpE (defs₀ (F := F)) 𝒱₀ (c : Thread nD τ) none) Set.univ (Pipeline.chain l) Q)
          -∗ wp frame (wpE (defs₀ (F := F)) 𝒱₀ (c : Thread nD τ) none) Set.univ (Pipeline.chain (a :: l)) Q) := by
  rw [Pipeline.chain_cons]
  exact h.apply (b := fun _ => Pipeline.chain l)

/-! ## Two steps of one part -/

section Part

variable (c : Dev nD) (p : Fin 3) (j : Fin 7)

/-- A product, and its transfer. -/
theorem gemmSend_tr (hS : S X W p j c = G X W p (srcSlot j) c) (k : ℕ) :
    Tr X W K c iprop((toks (F := F) p j c ∗ lent (F := F) p j c ∗ accAny (F := F) p c (srcSlot j)) ∗ inputs X W c ∗ owing (F := F) c (3 * j.val + p.val))
      (gemmSend j c p) iprop(flying (F := F) p j c ∗ inputs X W c ∗ owing (F := F) c (3 * j.val + (p.val + 1))) := by
  unfold Tr gemmSend
  iintro ⟨#HK, ⟨Ht, Hl, Ha⟩, Hi, Ho⟩
  iapply (gemm_tr X W K p (srcSlot j) c).apply $$ [Ha Hi]
  · isplitr; · iexact HK
    isplitl [Ha] <;> iassumption
  rw [← hS]
  iintro ⟨Ha, Hi⟩
  iapply (send_tr X W K p j c).finish $$ [Ht Hl Ha Ho]
  · isplitr; · iexact HK
    isplitr [Ho]
    · isplitl [Ht]; · iexact Ht
      isplitl [Hl] <;> iassumption
    iexact Ho
  iintro ⟨Hf, Ho⟩
  isplitl [Hf]; · iexact Hf
  isplitl [Hi] <;> iassumption

/-- A wait, and the addition of what came. -/
theorem recvAdd_tr (t : Fin 8) (n : ℕ) (hn : ∀ x ∈ order.drop n, j.val < x.2.val) (v u : Vec F (slotSh p) .f32) (hu : addV p v (L X W p j c) = u) :
    Tr X W K c iprop((due (F := F) p j c ∗ accAt p t c v) ∗ owing (F := F) c n) (recvAdd j t p)
      iprop((come (F := F) p j c ∗ rcvAt p (dstSlot j) c (L X W p j c) ∗ accAt p t c u) ∗ owing (F := F) c n) := by
  subst hu
  unfold Tr recvAdd
  iintro ⟨#HK, ⟨Hd, Ha⟩, Ho⟩
  iapply (waitR_tr X W K p j c n hn).apply $$ [Hd Ho]
  · isplitr; · iexact HK
    isplitl [Hd] <;> iassumption
  iintro ⟨⟨Hc, Hr⟩, Ho⟩
  iapply (addStep_tr X W K p j t c v (L X W p j c)).finish $$ [Ha Hr]
  · isplitr; · iexact HK
    isplitl [Ha] <;> iassumption
  iintro ⟨Ha, Hr⟩
  isplitr [Ho]
  · isplitl [Hc]; · iexact Hc
    isplitl [Hr] <;> iassumption
  iexact Ho

/-- A wait, the addition of what came, and the transfer of the sum. -/
theorem recvAddSend_tr (j' : Fin 7) (hn : ∀ x ∈ order.drop (3 * j'.val + p.val), j.val < x.2.val) (v : Vec F (slotSh p) .f32)
    (hu : addV p v (L X W p j c) = S X W p j' c) :
    Tr X W K c iprop((due (F := F) p j c ∗ accAt p (srcSlot j') c v ∗ toks (F := F) p j' c ∗ lent (F := F) p j' c) ∗ owing (F := F) c (3 * j'.val + p.val))
      (recvAddSend j j' c p)
      iprop((come (F := F) p j c ∗ rcvAt p (dstSlot j) c (L X W p j c) ∗ flying (F := F) p j' c) ∗ owing (F := F) c (3 * j'.val + (p.val + 1))) := by
  unfold Tr recvAddSend
  iintro ⟨#HK, ⟨Hd, Ha, Ht, Hl⟩, Ho⟩
  iapply (recvAdd_tr X W K c p j (srcSlot j') _ hn v _ hu).apply $$ [Hd Ha Ho]
  · isplitr; · iexact HK
    isplitr [Ho]
    · isplitl [Hd] <;> iassumption
    iexact Ho
  iintro ⟨⟨Hc, Hr, Ha⟩, Ho⟩
  iapply (send_tr X W K p j' c).finish $$ [Ht Hl Ha Ho]
  · isplitr; · iexact HK
    isplitr [Ho]
    · isplitl [Ht]; · iexact Ht
      isplitl [Hl] <;> iassumption
    iexact Ho
  iintro ⟨Hf, Ho⟩
  isplitr [Ho]
  · isplitl [Hc]; · iexact Hc
    isplitl [Hr] <;> iassumption
  iexact Ho

/-- The last wait, and the result. -/
theorem recvOut_tr (v : Vec F (slotSh p) .f32) (u : Vec F (wSh p) .f32) (hu : outV p v (L X W p 6 c) = u) :
    Tr X W K c iprop((due (F := F) p 6 c ∗ accAt p 0 c v ∗ ∃ w, outAtP p c w) ∗ owing (F := F) c 21) (waitR p 6 >>= fun _ => outStep p)
      iprop((come (F := F) p 6 c ∗ rcvAt p (dstSlot 6) c (L X W p 6 c) ∗ accAt p 0 c v ∗ outAtP p c u) ∗ owing (F := F) c 21) := by
  subst hu
  unfold Tr
  iintro ⟨#HK, ⟨Hd, Ha, Hq⟩, Ho⟩
  iapply (waitR_tr X W K p 6 c 21 (by decide)).apply $$ [Hd Ho]
  · isplitr; · iexact HK
    isplitl [Hd] <;> iassumption
  iintro ⟨⟨Hc, Hr⟩, Ho⟩
  iapply (outStep_tr X W K p c v (L X W p 6 c)).finish $$ [Ha Hr Hq]
  · isplitr; · iexact HK
    isplitl [Hq]; · iexact Hq
    isplitl [Ha] <;> iassumption
  iintro ⟨Hq, Ha, Hr⟩
  isplitr [Ho]
  · isplitl [Hc]; · iexact Hc
    isplitl [Hr]; · iexact Hr
    isplitl [Ha] <;> iassumption
  iexact Ho

end Part

/-! ## A step of all three parts -/

section Phase

variable (c : Dev nD) (j : Fin 7)

theorem gemmSend_all (hS : ∀ p, S X W p j c = G X W p (srcSlot j) c) {t : Fin 8} {n n' : ℕ} (ht : srcSlot j = t) (hn : 3 * j.val = n) (hn' : n + 3 = n') :
    Tr X W K c iprop(((bigSep Finset.univ fun p => toks (F := F) p j c) ∗ (bigSep Finset.univ fun p => lent (F := F) p j c)
          ∗ (bigSep Finset.univ fun p => accAny (F := F) p c t)) ∗ inputs X W c ∗ owing (F := F) c n)
      (forParts (gemmSend j c)) iprop((bigSep Finset.univ fun p => flying (F := F) p j c) ∗ inputs X W c ∗ owing (F := F) c n') := by
  subst ht hn hn'
  have h := Tr.parts (D := fun k => iprop(inputs X W c ∗ owing (F := F) c (3 * j.val + k))) fun p => gemmSend_tr X W K c p j (hS p) 0
  rw [bigSep_sep', bigSep_sep'] at h
  exact h

theorem gemm_all (t : Fin 8) :
    Tr X W K c iprop((bigSep Finset.univ fun p => accAny (F := F) p c t) ∗ inputs X W c) (forParts fun p => gemm p t c)
      iprop((bigSep Finset.univ fun p => accAt p t c (G X W p t c)) ∗ inputs X W c) :=
  Tr.parts (D := fun _ => inputs X W c) fun p => gemm_tr X W K p t c

theorem recvAdd_all (t : Fin 8) (n : ℕ) (hn : ∀ x ∈ order.drop n, j.val < x.2.val) (v u : (p : Fin 3) → Vec F (slotSh p) .f32)
    (hu : ∀ p, addV p (v p) (L X W p j c) = u p) :
    Tr X W K c iprop(((bigSep Finset.univ fun p => due (F := F) p j c) ∗ (bigSep Finset.univ fun p => accAt p t c (v p))) ∗ owing (F := F) c n)
      (forParts (recvAdd j t))
      iprop(((bigSep Finset.univ fun p => come (F := F) p j c) ∗ (bigSep Finset.univ fun p => rcvAt p (dstSlot j) c (L X W p j c))
          ∗ (bigSep Finset.univ fun p => accAt p t c (u p))) ∗ owing (F := F) c n) := by
  have h := Tr.parts (D := fun _ => owing (F := F) c n) fun p => recvAdd_tr X W K c p j t n hn (v p) (u p) (hu p)
  rw [bigSep_sep', bigSep_sep', bigSep_sep'] at h
  exact h

theorem recvAddSend_all (j' : Fin 7) {t : Fin 8} {n n' : ℕ} (ht : srcSlot j' = t) (hn₀ : 3 * j'.val = n) (hn' : n + 3 = n')
    (hn : ∀ p : Fin 3, ∀ x ∈ order.drop (3 * j'.val + p.val), j.val < x.2.val) (v : (p : Fin 3) → Vec F (slotSh p) .f32)
    (hu : ∀ p, addV p (v p) (L X W p j c) = S X W p j' c) :
    Tr X W K c iprop(((bigSep Finset.univ fun p => due (F := F) p j c) ∗ (bigSep Finset.univ fun p => accAt p t c (v p))
          ∗ (bigSep Finset.univ fun p => toks (F := F) p j' c) ∗ (bigSep Finset.univ fun p => lent (F := F) p j' c)) ∗ owing (F := F) c n)
      (forParts (recvAddSend j j' c))
      iprop(((bigSep Finset.univ fun p => come (F := F) p j c) ∗ (bigSep Finset.univ fun p => rcvAt p (dstSlot j) c (L X W p j c))
          ∗ (bigSep Finset.univ fun p => flying (F := F) p j' c)) ∗ owing (F := F) c n') := by
  subst ht hn₀ hn'
  have h := Tr.parts (D := fun k => owing (F := F) c (3 * j'.val + k)) fun p => recvAddSend_tr X W K c p j j' (hn p) (v p) (hu p)
  rw [bigSep_sep', bigSep_sep', bigSep_sep', bigSep_sep', bigSep_sep'] at h
  exact h

theorem recvOut_all (v : (p : Fin 3) → Vec F (slotSh p) .f32) (u : (p : Fin 3) → Vec F (wSh p) .f32) (hu : ∀ p, outV p (v p) (L X W p 6 c) = u p) :
    Tr X W K c iprop(((bigSep Finset.univ fun p => due (F := F) p 6 c) ∗ (bigSep Finset.univ fun p => accAt p 0 c (v p))
          ∗ (bigSep Finset.univ fun p => iprop(∃ w, outAtP (F := F) p c w))) ∗ owing (F := F) c 21)
      (forParts fun p => waitR p 6 >>= fun _ => outStep p)
      iprop(((bigSep Finset.univ fun p => come (F := F) p 6 c) ∗ (bigSep Finset.univ fun p => rcvAt p (dstSlot 6) c (L X W p 6 c))
          ∗ (bigSep Finset.univ fun p => accAt p 0 c (v p)) ∗ (bigSep Finset.univ fun p => outAtP p c (u p))) ∗ owing (F := F) c 21) := by
  have h := Tr.parts (D := fun _ => owing (F := F) c 21) fun p => recvOut_tr X W K c p (v p) (u p) (hu p)
  rw [bigSep_sep', bigSep_sep', bigSep_sep', bigSep_sep', bigSep_sep'] at h
  exact h

theorem accAny_intro (p : Fin 3) (t : Fin 8) (v : Vec F (slotSh p) .f32) : accAt p t c v ⊢ accAny p c t := by
  unfold accAny; iintro H; iexists v; iexact H

theorem waitS_all {t : Fin 8} (ht : srcSlot j = t) :
    Tr X W K c iprop((bigSep Finset.univ fun p => flying (F := F) p j c) ∗ owing (F := F) c 21) (forParts fun p => waitS p j)
      iprop(((bigSep Finset.univ fun p => gone (F := F) p j c) ∗ (bigSep Finset.univ fun p => accAny (F := F) p c t)) ∗ owing (F := F) c 21) := by
  subst ht
  have h := Tr.parts (D := fun _ => owing (F := F) c 21) fun p => waitS_tr X W K p j c
  rw [bigSep_sep'] at h
  refine h.conseq (Entails.refl _) (sep_mono_left (sep_mono_right (bigSep_mono fun p _ => accAny_intro c p _ _)))

end Phase

/-! ## The sequence -/

section Whole

variable (c : Dev nD)

/-- Something held for every part and transfer, sorted by transfer. -/
theorem by_transfer (Φ : Fin 3 → Fin 7 → sProp 𝕄) : (bigSep Finset.univ fun x : Fin 3 × Fin 7 => Φ x.1 x.2)
    = iprop((bigSep Finset.univ fun p => Φ p 0) ∗ (bigSep Finset.univ fun p => Φ p 1) ∗ (bigSep Finset.univ fun p => Φ p 2)
      ∗ (bigSep Finset.univ fun p => Φ p 3) ∗ (bigSep Finset.univ fun p => Φ p 4) ∗ (bigSep Finset.univ fun p => Φ p 5)
      ∗ (bigSep Finset.univ fun p => Φ p 6)) := by
  rw [bigSep_univ_prod, bigSep_univ_comm, bigSep_univ_eq_bigSepL [0, 1, 2, 3, 4, 5, 6] (by decide) (by decide)]
  rfl
/-- Something held for every part and slot, sorted by slot. -/
theorem by_slot (Φ : Fin 3 → Fin 8 → sProp 𝕄) : (bigSep Finset.univ fun x : Fin 3 × Fin 8 => Φ x.1 x.2)
    = iprop((bigSep Finset.univ fun p => Φ p 0) ∗ (bigSep Finset.univ fun p => Φ p 1) ∗ (bigSep Finset.univ fun p => Φ p 2)
      ∗ (bigSep Finset.univ fun p => Φ p 3) ∗ (bigSep Finset.univ fun p => Φ p 4) ∗ (bigSep Finset.univ fun p => Φ p 5)
      ∗ (bigSep Finset.univ fun p => Φ p 6) ∗ (bigSep Finset.univ fun p => Φ p 7)) := by
  rw [bigSep_univ_prod, bigSep_univ_comm, bigSep_univ_eq_bigSepL [0, 1, 2, 3, 4, 5, 6, 7] (by decide) (by decide)]
  rfl

/-- What device `c` starts with. -/
def before : sProp 𝕄 :=
  iprop((atDoor (F := F) c ∗ ∃ V, owes (c : Thread nD τ) (O₀ c) V) ∗ inputs X W c
    ∗ (bigSep Finset.univ fun p => iprop(∃ w, outAtP (F := F) p c w))
    ∗ (bigSep Finset.univ fun x : Fin 3 × Fin 7 => toks (F := F) x.1 x.2 c)
    ∗ (bigSep Finset.univ fun x : Fin 3 × Fin 7 => due (F := F) x.1 x.2 c)
    ∗ (bigSep Finset.univ fun x : Fin 3 × Fin 8 => accAny (F := F) x.1 c x.2))

/-- What device `c` ends with. -/
def after : sProp 𝕄 :=
  iprop((atPos ER (barCell c) 1 ∅ 0 ∗ owing (F := F) c 21) ∗ inputs X W c
    ∗ (bigSep Finset.univ fun p => outAtP p c (outP X W p c))
    ∗ (bigSep Finset.univ fun x : Fin 3 × Fin 7 => gone (F := F) x.1 x.2 c)
    ∗ (bigSep Finset.univ fun x : Fin 3 × Fin 7 => come (F := F) x.1 x.2 c)
    ∗ (bigSep Finset.univ fun x : Fin 3 × Fin 7 => rcvAt x.1 (dstSlot x.2) c (L X W x.1 x.2 c))
    ∗ (bigSep Finset.univ fun x : Fin 3 × Fin 8 => accAny (F := F) x.1 c x.2))

set_option maxHeartbeats 1000000 in
/-- The steps take `before` to `after`. -/
theorem steps_tr : Tr X W K c (before X W c) (steps c) (after X W c) := by
  unfold before after Tr steps
  rw [by_transfer (fun p j => toks p j c), by_transfer (fun p j => due p j c), by_transfer (fun p j => gone p j c), by_transfer (fun p j => come p j c),
    by_transfer (fun p j => rcvAt p (dstSlot j) c (L X W p j c)), by_slot (fun p t => accAny p c t)]
  iintro ⟨#HK, Hd, Hi, Hq, ⟨T0, T1, T2, T3, T4, T5, T6⟩, ⟨U0, U1, U2, U3, U4, U5, U6⟩, ⟨A0, A1, A2, A3, A4, A5, A6, A7⟩⟩
  iapply (handshake_tr X W K c).next $$ [Hd]
  · isplitr; · iexact HK
    iexact Hd
  rw [by_transfer (fun p j => lent p j c)]
  iintro ⟨⟨Hb, L0, L1, L2, L3, L4, L5, L6⟩, Ho⟩
  -- the four products that are sent at once
  iapply (gemmSend_all X W K c 0 (fun _ => rfl) (t := 7) (n := 0) (n' := 3) rfl rfl rfl).next $$ [T0 L0 A7 Hi Ho]
  · isplitr; · iexact HK
    isplitr [Hi Ho]
    · isplitl [T0]; · iexact T0
      isplitl [L0] <;> iassumption
    isplitl [Hi] <;> iassumption
  iintro ⟨F0, Hi, Ho⟩
  iapply (gemmSend_all X W K c 1 (fun _ => rfl) (t := 6) (n := 3) (n' := 6) rfl rfl rfl).next $$ [T1 L1 A6 Hi Ho]
  · isplitr; · iexact HK
    isplitr [Hi Ho]
    · isplitl [T1]; · iexact T1
      isplitl [L1] <;> iassumption
    isplitl [Hi] <;> iassumption
  iintro ⟨F1, Hi, Ho⟩
  iapply (gemmSend_all X W K c 2 (fun _ => rfl) (t := 5) (n := 6) (n' := 9) rfl rfl rfl).next $$ [T2 L2 A5 Hi Ho]
  · isplitr; · iexact HK
    isplitr [Hi Ho]
    · isplitl [T2]; · iexact T2
      isplitl [L2] <;> iassumption
    isplitl [Hi] <;> iassumption
  iintro ⟨F2, Hi, Ho⟩
  iapply (gemmSend_all X W K c 3 (fun _ => rfl) (t := 4) (n := 9) (n' := 12) rfl rfl rfl).next $$ [T3 L3 A4 Hi Ho]
  · isplitr; · iexact HK
    isplitr [Hi Ho]
    · isplitl [T3]; · iexact T3
      isplitl [L3] <;> iassumption
    isplitl [Hi] <;> iassumption
  iintro ⟨F3, Hi, Ho⟩
  -- the four products that are kept
  iapply (gemm_all X W K c 3).next $$ [A3 Hi]
  · isplitr; · iexact HK
    isplitl [A3] <;> iassumption
  iintro ⟨A3, Hi⟩
  iapply (gemm_all X W K c 2).next $$ [A2 Hi]
  · isplitr; · iexact HK
    isplitl [A2] <;> iassumption
  iintro ⟨A2, Hi⟩
  iapply (gemm_all X W K c 1).next $$ [A1 Hi]
  · isplitr; · iexact HK
    isplitl [A1] <;> iassumption
  iintro ⟨A1, Hi⟩
  iapply (gemm_all X W K c 0).next $$ [A0 Hi]
  · isplitr; · iexact HK
    isplitl [A0] <;> iassumption
  iintro ⟨A0, Hi⟩
  -- the exchanges
  iapply (recvAddSend_all X W K c 0 4 (t := 3) (n := 12) (n' := 15) rfl rfl rfl (by decide) (fun p => G X W p 3 c) (fun _ => rfl)).next $$ [U0 A3 T4 L4 Ho]
  · isplitr; · iexact HK
    isplitr [Ho]
    · isplitl [U0]; · iexact U0
      isplitl [A3]; · iexact A3
      isplitl [T4] <;> iassumption
    iexact Ho
  iintro ⟨⟨C0, R0, F4⟩, Ho⟩
  iapply (recvAddSend_all X W K c 1 5 (t := 2) (n := 15) (n' := 18) rfl rfl rfl (by decide) (fun p => G X W p 2 c) (fun _ => rfl)).next $$ [U1 A2 T5 L5 Ho]
  · isplitr; · iexact HK
    isplitr [Ho]
    · isplitl [U1]; · iexact U1
      isplitl [A2]; · iexact A2
      isplitl [T5] <;> iassumption
    iexact Ho
  iintro ⟨⟨C1, R1, F5⟩, Ho⟩
  iapply (recvAdd_all X W K c 2 1 18 (by decide) (fun p => G X W p 1 c) (fun p => Reduce.A1 X W p 1 2 c) (fun _ => rfl)).next $$ [U2 A1 Ho]
  · isplitr; · iexact HK
    isplitr [Ho]
    · isplitl [U2] <;> iassumption
    iexact Ho
  iintro ⟨⟨C2, R2, A1⟩, Ho⟩
  iapply (recvAddSend_all X W K c 4 6 (t := 1) (n := 18) (n' := 21) rfl rfl rfl (by decide) (fun p => Reduce.A1 X W p 1 2 c) (fun _ => rfl)).next $$ [U4 A1 T6 L6 Ho]
  · isplitr; · iexact HK
    isplitr [Ho]
    · isplitl [U4]; · iexact U4
      isplitl [A1]; · iexact A1
      isplitl [T6] <;> iassumption
    iexact Ho
  iintro ⟨⟨C4, R4, F6⟩, Ho⟩
  iapply (recvAdd_all X W K c 3 0 21 (by decide) (fun p => G X W p 0 c) (fun p => Reduce.A1 X W p 0 3 c) (fun _ => rfl)).next $$ [U3 A0 Ho]
  · isplitr; · iexact HK
    isplitr [Ho]
    · isplitl [U3] <;> iassumption
    iexact Ho
  iintro ⟨⟨C3, R3, A0⟩, Ho⟩
  iapply (recvAdd_all X W K c 5 0 21 (by decide) (fun p => Reduce.A1 X W p 0 3 c) (fun p => B0 X W p c) (fun _ => rfl)).next $$ [U5 A0 Ho]
  · isplitr; · iexact HK
    isplitr [Ho]
    · isplitl [U5] <;> iassumption
    iexact Ho
  iintro ⟨⟨C5, R5, A0⟩, Ho⟩
  iapply (recvOut_all X W K c (fun p => B0 X W p c) (fun p => outP X W p c) (fun _ => rfl)).next $$ [U6 A0 Hq Ho]
  · isplitr; · iexact HK
    isplitr [Ho]
    · isplitl [U6]; · iexact U6
      isplitl [A0] <;> iassumption
    iexact Ho
  iintro ⟨⟨C6, R6, A0, Hq⟩, Ho⟩
  -- the own transfers have left
  iapply (waitS_all X W K c 0 (t := 7) rfl).next $$ [F0 Ho]
  · isplitr; · iexact HK
    isplitl [F0] <;> iassumption
  iintro ⟨⟨S0, A7⟩, Ho⟩
  iapply (waitS_all X W K c 1 (t := 6) rfl).next $$ [F1 Ho]
  · isplitr; · iexact HK
    isplitl [F1] <;> iassumption
  iintro ⟨⟨S1, A6⟩, Ho⟩
  iapply (waitS_all X W K c 2 (t := 5) rfl).next $$ [F2 Ho]
  · isplitr; · iexact HK
    isplitl [F2] <;> iassumption
  iintro ⟨⟨S2, A5⟩, Ho⟩
  iapply (waitS_all X W K c 3 (t := 4) rfl).next $$ [F3 Ho]
  · isplitr; · iexact HK
    isplitl [F3] <;> iassumption
  iintro ⟨⟨S3, A4⟩, Ho⟩
  iapply (waitS_all X W K c 4 (t := 3) rfl).next $$ [F4 Ho]
  · isplitr; · iexact HK
    isplitl [F4] <;> iassumption
  iintro ⟨⟨S4, A3⟩, Ho⟩
  iapply (waitS_all X W K c 5 (t := 2) rfl).next $$ [F5 Ho]
  · isplitr; · iexact HK
    isplitl [F5] <;> iassumption
  iintro ⟨⟨S5, A2⟩, Ho⟩
  iapply (waitS_all X W K c 6 (t := 1) rfl).next $$ [F6 Ho]
  · isplitr; · iexact HK
    isplitl [F6] <;> iassumption
  iintro ⟨⟨S6, A1⟩, Ho⟩
  rw [Pipeline.chain_nil, Prog.pure_eq_ret, wp_ret]; imodintro
  isplitl [Hb Ho]
  · isplitl [Hb] <;> iassumption
  isplitl [Hi]; · iexact Hi
  isplitl [Hq]; · iexact Hq
  isplitl [S0 S1 S2 S3 S4 S5 S6]
  · isplitl [S0]; · iexact S0
    isplitl [S1]; · iexact S1
    isplitl [S2]; · iexact S2
    isplitl [S3]; · iexact S3
    isplitl [S4]; · iexact S4
    isplitl [S5] <;> iassumption
  isplitl [C0 C1 C2 C3 C4 C5 C6]
  · isplitl [C0]; · iexact C0
    isplitl [C1]; · iexact C1
    isplitl [C2]; · iexact C2
    isplitl [C3]; · iexact C3
    isplitl [C4]; · iexact C4
    isplitl [C5] <;> iassumption
  isplitl [R0 R1 R2 R3 R4 R5 R6]
  · isplitl [R0]; · iexact R0
    isplitl [R1]; · iexact R1
    isplitl [R2]; · iexact R2
    isplitl [R3]; · iexact R3
    isplitl [R4]; · iexact R4
    isplitl [R5] <;> iassumption
  isplitl [A0]
  · iapply (show (bigSep Finset.univ fun p => accAt p 0 c (B0 X W p c)) ⊢ bigSep Finset.univ fun p => accAny p c 0 from
      bigSep_mono fun p _ => accAny_intro c p 0 _)
    iexact A0
  isplitl [A1]; · iexact A1
  isplitl [A2]; · iexact A2
  isplitl [A3]; · iexact A3
  isplitl [A4]; · iexact A4
  isplitl [A5]; · iexact A5
  isplitl [A6] <;> iassumption

end Whole

end Cert.Reduce

end
-- ==== Proof.Pieces.lean ====
/-
# Buffers as their pieces

The kernel works on pieces of its buffers: the eight slots of an accumulator, the seven slots of a landing buffer,
the three column parts of the result. The pieces of a buffer are disjoint and cover it, so owning the buffer is owning
the pieces.
-/
module

public import proofs.«01_k».proof.Proof.Body

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The pieces are disjoint and cover -/

theorem acc_disjoint (p : Fin 3) (t t' : Fin 8) (h : t ≠ t') : Disjoint (accRect p t).set (accRect p t').set := by
  refine Finset.disjoint_left.mpr fun i hi hi' => h (Fin.ext ?_)
  have h1 := Rect.mem_set_unit.mp hi 0
  have h2 := Rect.mem_set_unit.mp hi' 0
  simp at h1 h2; omega
theorem acc_cover (p : Fin 3) : (Finset.univ : Finset (Fin 8)).biUnion (fun t => (accRect p t).set) = Finset.univ := by
  refine Finset.eq_univ_of_forall fun i => Finset.mem_biUnion.mpr ⟨⟨(i 0).val, (i 0).isLt⟩, Finset.mem_univ _, Rect.mem_set_unit.mpr fun a => ?_⟩
  have := (i a).isLt
  fin_cases a <;> simp_all

theorem rcv_disjoint (p : Fin 3) (t t' : Fin 7) (h : t ≠ t') : Disjoint (rcvRect p t).set (rcvRect p t').set := by
  refine Finset.disjoint_left.mpr fun i hi hi' => h (Fin.ext ?_)
  have h1 := Rect.mem_set_unit.mp hi 0
  have h2 := Rect.mem_set_unit.mp hi' 0
  simp at h1 h2; omega
theorem rcv_cover (p : Fin 3) : (Finset.univ : Finset (Fin 7)).biUnion (fun t => (rcvRect p t).set) = Finset.univ := by
  refine Finset.eq_univ_of_forall fun i => Finset.mem_biUnion.mpr ⟨⟨(i 0).val, (i 0).isLt⟩, Finset.mem_univ _, Rect.mem_set_unit.mpr fun a => ?_⟩
  have := (i a).isLt
  fin_cases a <;> simp_all

/-- Membership in a column part, by the column. -/
theorem mem_part (p : Fin 3) (i : S256x2048.Idx) : i ∈ (partRect p).set ↔ off p ≤ (i 1).val ∧ (i 1).val < off p + cols p := by
  rw [Rect.mem_set_unit]
  have := (i 0).isLt
  exact ⟨fun h => h 1, fun h a => by
    fin_cases a
    · exact ⟨Nat.zero_le _, by simpa using this⟩
    · exact h⟩
theorem part_disjoint (p p' : Fin 3) (h : p ≠ p') : Disjoint (partRect p).set (partRect p').set := by
  refine Finset.disjoint_left.mpr fun i hi hi' => h ?_
  rw [mem_part] at hi hi'
  fin_cases p <;> fin_cases p' <;> first | rfl | (simp [off, cols] at hi hi'; omega)
theorem part_cover : (Finset.univ : Finset (Fin 3)).biUnion (fun p => (partRect p).set) = Finset.univ := by
  refine Finset.eq_univ_of_forall fun i => ?_
  have hi : (i 1).val < 2048 := (i 1).isLt
  have hp : ∃ p : Fin 3, off p ≤ (i 1).val ∧ (i 1).val < off p + cols p := by
    by_cases h0 : (i 1).val < 768
    · exact ⟨0, Nat.zero_le _, by simpa [off, cols] using h0⟩
    by_cases h1 : (i 1).val < 1408
    · exact ⟨1, by simp [off]; omega, by simp [off, cols]; omega⟩
    · exact ⟨2, by simp [off]; omega, by simp [off, cols]; omega⟩
  obtain ⟨p, hp⟩ := hp
  exact Finset.mem_biUnion.mpr ⟨p, Finset.mem_univ _, (mem_part p i).mpr hp⟩

/-! ## Owning a buffer at any contents -/

/-- Known contents are some contents. -/
theorem owns_any (c : Dev nD) {sh : Shape} {e : EltTy} (m : Memref sig .tc .vmem sh e) (v : sh.Idx → Elt F e) :
    (owns (c : Thread nD τ) m fullShare v : sProp 𝕄) ⊢ iprop(∃ v, owns (c : Thread nD τ) m fullShare v) := by
  iintro H; iexists v; iexact H

section Any

variable (c : Dev nD) {sh : Shape} {e : EltTy} (m : Memref sig .tc .vmem sh e)
variable {T : Type} [Fintype T] [DecidableEq T] (r : T → Rect sh) (hr : ∀ t a, (r t).stride a = 1)
  (hd : ∀ t t', t ≠ t' → Disjoint (r t).set (r t').set)
  (hcov : (Finset.univ : Finset T).biUnion (fun t => (r t).set) = Finset.univ)
include hd hcov

/-- A buffer at any contents is its pieces, each at any contents, -/
theorem split_any : iprop(∃ v, owns (c : Thread nD τ) m fullShare v)
    ⊢ (bigSep Finset.univ fun t => iprop(∃ v, owns (c : Thread nD τ) (m.slice (r t) (hr t)) fullShare v) : sProp 𝕄) := by
  iintro ⟨%v, H⟩
  iapply (show (owns (c : Thread nD τ) m fullShare v : sProp 𝕄) ⊢ bigSep Finset.univ fun t => iprop(∃ v, owns (c : Thread nD τ) (m.slice (r t) (hr t)) fullShare v) from
    (owns_rects (c : Thread nD τ) m fullShare r hr hd hcov v).trans (bigSep_mono fun t _ => owns_any (F := F) c (m.slice (r t) (hr t)) _))
  iexact H

/-- and back. -/
theorem join_any : (bigSep Finset.univ fun t => iprop(∃ v, owns (c : Thread nD τ) (m.slice (r t) (hr t)) fullShare v))
    ⊢ (iprop(∃ v, owns (c : Thread nD τ) m fullShare v) : sProp 𝕄) := by
  refine (bigSep_mono fun t _ => (ownsSat_true (c : Thread nD τ) (m.slice (r t) (hr t)) fullShare).2).trans ?_
  refine (ownsSat_of_rects (c : Thread nD τ) m fullShare r hr hd hcov fun _ _ => True).trans ?_
  exact (ownsSat_mono (Ψ := fun _ => True) (c : Thread nD τ) m fullShare fun _ _ => trivial).trans (ownsSat_true (c : Thread nD τ) m fullShare).1

end Any

/-! ## The scratch buffers -/

/-- A buffer at any contents. -/
def anyBuf (c : Dev nD) {sh : Shape} (m : Memref sig .tc .vmem sh .f32) : sProp 𝕄 := iprop(∃ v, owns (c : Thread nD τ) m fullShare v)
/-- All scratch buffers, with any contents. -/
def scratch (c : Dev nD) : sProp 𝕄 :=
  iprop((bigSep Finset.univ fun p : Fin 3 => anyBuf (F := F) c (accM p)) ∗ bigSep Finset.univ fun p : Fin 3 => anyBuf (F := F) c (rcvM p))

theorem sep_regroup (P Q R : sProp 𝕄) : iprop((P ∗ Q) ∗ R) = iprop(P ∗ Q ∗ R) := Entails.antisymm BI.sep_assoc BI.sep_assoc'

/-- The launch hands a device its scratch buffers. -/
theorem scratch_eq (c : Dev nD) :
    (Pipeline.scopedRest (Ix := Unit) (Name := ℕ) (U := UU) (Lvl := ℕ) (Val := Elt F) spec0 c : sProp 𝕄) = scratch c := by
  have h {b : Ref sig .tc} : (iprop(∃ f : Buf (Elt F) ((c : Thread nD τ).loc b), ((c : Thread nD τ).loc b) ↦{fullShare} f) : sProp 𝕄)
      = iprop(∃ v, owns (c : Thread nD τ) (Memref.whole b) fullShare v) := by
    simp only [owns_whole]
  rw [scopedRest0_eq, h, h, h, h, h, h]
  unfold scratch
  rw [bigSep_parts, bigSep_parts]
  unfold anyBuf
  show _ = iprop((_ ∗ _ ∗ _) ∗ _ ∗ _ ∗ _)
  rw [sep_regroup, sep_regroup]
  rfl

/-- `dstSlot` numbers the landing slots. -/
def dstEquiv : Fin 7 ≃ Fin 7 := ⟨dstSlot, ![3, 2, 1, 0, 5, 4, 6], by decide, by decide⟩

/-- The scratch buffers are their slots. -/
theorem scratch_slots (c : Dev nD) : scratch (F := F) c
    ⊢ iprop((bigSep Finset.univ fun x : Fin 3 × Fin 8 => accAny (F := F) x.1 c x.2)
      ∗ bigSep Finset.univ fun x : Fin 3 × Fin 7 => iprop(∃ v, rcvAt (F := F) x.1 (dstSlot x.2) c v)) := by
  unfold scratch anyBuf accAny accAt rcvAt
  rw [bigSep_univ_prod, bigSep_univ_prod]
  refine BI.sep_mono (bigSep_mono fun p _ => split_any c (accM p) (accRect p) (fun _ _ => rfl) (acc_disjoint p) (acc_cover p)) (bigSep_mono fun p _ => ?_)
  refine (split_any c (rcvM p) (rcvRect p) (fun _ _ => rfl) (rcv_disjoint p) (rcv_cover p)).trans (Entails.of_eq ?_)
  exact bigSep_univ_equiv dstEquiv _

theorem slots_scratch (c : Dev nD) :
    iprop((bigSep Finset.univ fun x : Fin 3 × Fin 8 => accAny (F := F) x.1 c x.2)
      ∗ bigSep Finset.univ fun x : Fin 3 × Fin 7 => iprop(∃ v, rcvAt (F := F) x.1 (dstSlot x.2) c v)) ⊢ scratch (F := F) c := by
  unfold scratch anyBuf accAny accAt rcvAt
  rw [bigSep_univ_prod, bigSep_univ_prod]
  refine BI.sep_mono (bigSep_mono fun p _ => join_any c (accM p) (accRect p) (fun _ _ => rfl) (acc_disjoint p) (acc_cover p)) (bigSep_mono fun p _ => ?_)
  refine (Entails.of_eq ?_).trans (join_any c (rcvM p) (rcvRect p) (fun _ _ => rfl) (rcv_disjoint p) (rcv_cover p))
  exact (bigSep_univ_equiv dstEquiv (fun s => iprop(∃ v, owns (c : Thread nD τ) (rcvSlot p s) fullShare v : sProp 𝕄))).symm

/-! ## The result -/

variable (X : Dev nD → Vec F S2048x256 .f32) (W : Dev nD → Vec F S256x2048 .f32)

/-- The result on device `c`: its three parts side by side. -/
def outAt (c : Dev nD) : Vec F S256x2048 .f32 := Rect.glue partRect part_cover fun p => outP X W p c

theorem outAt_part (c : Dev nD) (p : Fin 3) (y : (wSh p).Idx) : outAt X W c ((partRect p).emb y) = outP X W p c y :=
  Rect.glue_emb partRect part_cover part_disjoint (fun p => outP X W p c) p y

theorem out_parts (c : Dev nD) : iprop(∃ v, owns (c : Thread nD τ) oM fullShare v)
    ⊢ (bigSep Finset.univ fun p => iprop(∃ w, outAtP (F := F) p c w) : sProp 𝕄) := by
  unfold outAtP
  exact split_any c oM partRect (fun _ _ => rfl) part_disjoint part_cover

theorem parts_out (c : Dev nD) : (bigSep Finset.univ fun p => outAtP (F := F) p c (outP X W p c))
    ⊢ owns (c : Thread nD τ) oM fullShare (outAt X W c) := by
  unfold outAtP
  refine (Entails.of_eq (bigSep_congr fun p _ => ?_)).trans (owns_of_rects (c : Thread nD τ) oM fullShare partRect (fun _ _ => rfl) part_disjoint part_cover (outAt X W c))
  exact congrArg _ (funext fun y => (outAt_part X W c p y).symm)

end Cert.Reduce

end
-- ==== Proof.Ghost.lean ====
/-
# The start and the end of the protocol

What the launch mints, how it is dealt to the devices, the credit each device starts with, and how the cells are closed
when all rounds are over.
-/
module

public import proofs.«01_k».proof.Proof.Pieces

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x256 .f32) (W : Dev nD → Vec F S256x2048 .f32)

/-- The transfers' semaphores, with a side each. -/
abbrev Sems21 : Type := Bool × Fin 3 × Fin 7

/-! ## Conjunctions over the semaphores -/

theorem bigSep_option {I : Type} [Fintype I] [DecidableEq I] (Φ : Option I → sProp 𝕄) :
    bigSep Finset.univ Φ = iprop(Φ none ∗ bigSep Finset.univ fun i => Φ (some i)) := by
  rw [bigSep_univ_at Φ none, show Finset.univ.erase (none : Option I) = Finset.univ.map Function.Embedding.some from by
    ext x; cases x <;> simp, bigSep_map]
  rfl

theorem bigSep_bool (Φ : Bool → sProp 𝕄) : bigSep Finset.univ Φ = iprop(Φ false ∗ Φ true) :=
  bigSep_univ_eq_bigSepL [false, true] (by decide) (by decide) Φ

/-- Over the transfers' semaphores: the send side, then the receive side. -/
theorem bigSep_sides (Φ : Sems21 → sProp 𝕄) : bigSep Finset.univ Φ
    = iprop((bigSep Finset.univ fun x : Fin 3 × Fin 7 => Φ (false, x)) ∗ bigSep Finset.univ fun x : Fin 3 × Fin 7 => Φ (true, x)) := by
  rw [bigSep_univ_prod, bigSep_bool]

/-! ## The cells and the tokens -/

theorem csem_injective : Function.Injective csem := by decide +kernel

theorem kcell_injective : Function.Injective (kcell : Dev nD × Option Sems21 → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- All cells of the protocol. -/
def allCells : Finset (GSem nD τ sig) := Finset.univ.map ⟨kcell, kcell_injective⟩

/-- The duties of a device's own cells: three of the barrier's, one of each transfer semaphore. -/
def tokOf (x : Dev nD × (Fin 3 ⊕ Sems21)) : GSem nD τ sig × ℕ × Fin 3 := match x.2 with
  | .inl d => (kcell (x.1, none), 0, d)
  | .inr k => (kcell (x.1, some k), 0, 0)
theorem tokOf_injective : Function.Injective tokOf := by
  rintro ⟨c, a⟩ ⟨c', a'⟩ h
  rcases a with d | k <;> rcases a' with d' | k'
  · have h1 := kcell_injective (congrArg Prod.fst h)
    have h2 : d = d' := congrArg (fun x : GSem nD τ sig × ℕ × Fin 3 => x.2.2) h
    rw [show c = c' from congrArg Prod.fst h1, h2]
  · exact absurd (congrArg Prod.snd (kcell_injective (congrArg Prod.fst h))) (fun h' => by cases h')
  · exact absurd (congrArg Prod.snd (kcell_injective (congrArg Prod.fst h))) (fun h' => by cases h')
  · have h1 := kcell_injective (congrArg Prod.fst h)
    rw [show c = c' from congrArg Prod.fst h1, show k = k' from Option.some.inj (congrArg Prod.snd h1)]
/-- All tokens of the protocol. -/
def allToks : Finset (GSem nD τ sig × ℕ × Fin 3) := Finset.univ.map ⟨tokOf, tokOf_injective⟩

/-- The ghost state the machine starts with. -/
def u₀ : UU := (initOf (Pipeline.cells cfgs cellOf_inj) (Pipeline.launchToks cfgs cellOf_inj), initOf allCells allToks)

/-- The tokens of device `c`'s own cells. -/
def minted (c : Dev nD) : sProp 𝕄 :=
  iprop((bigSep Finset.univ fun d : Fin 3 => dutyTok ER (barCell c) 0 d)
    ∗ (bigSep Finset.univ fun x : Fin 3 × Fin 7 => dutyTok ER (sendCell x.1 x.2 c) 0 0)
    ∗ bigSep Finset.univ fun x : Fin 3 × Fin 7 => dutyTok ER (recvCell x.1 x.2 c) 0 0)
/-- The tokens of the duties device `c` pays. -/
def dealt (c : Dev nD) : sProp 𝕄 :=
  iprop((bigSep Finset.univ fun d : Fin 3 => dutyTok ER (barCell (flip d c)) 0 d)
    ∗ (bigSep Finset.univ fun x : Fin 3 × Fin 7 => dutyTok ER (sendCell x.1 x.2 c) 0 0)
    ∗ bigSep Finset.univ fun x : Fin 3 × Fin 7 => dutyTok ER (recvCell x.1 x.2 (peer x.1 x.2 c)) 0 0)

/-- Turning all devices in one direction. -/
def flipEquiv (d : Fin 3) : Dev nD ≃ Dev nD := ⟨flip d, flip d, flip_flip d, flip_flip d⟩

/-- Something held for each device and index, handed round in the direction of the index. -/
theorem turn {J : Type} [Fintype J] (f : J → Fin 3) (Φ : Dev nD → J → sProp 𝕄) :
    (bigSep Finset.univ fun c => bigSep Finset.univ fun j => Φ c j) = bigSep Finset.univ fun c => bigSep Finset.univ fun j => Φ (flip (f j) c) j := by
  rw [bigSep_univ_comm, bigSep_univ_comm (fun c j => Φ (flip (f j) c) j)]
  exact bigSep_congr fun j _ => bigSep_univ_equiv (flipEquiv (f j)) fun c => Φ c j

/-- The tokens are dealt to the devices that pay. -/
theorem deal : (bigSep Finset.univ fun c : Dev nD => (minted c : sProp 𝕄)) = bigSep Finset.univ fun c : Dev nD => dealt c := by
  unfold minted dealt
  rw [bigSep_sep', bigSep_sep', bigSep_sep', bigSep_sep', turn (fun d => d) fun c d => dutyTok ER (barCell c) 0 d,
    turn (fun x : Fin 3 × Fin 7 => dim x.1 (rnd x.2)) fun c x => dutyTok ER (recvCell x.1 x.2 c) 0 0]
  rfl

/-! ## What the launch deals -/

/-- What the ghost state gives device `c`. -/
def given (c : Dev nD) : sProp 𝕄 :=
  iprop((bigSep Finset.univ fun k : Option Sems21 => roundState ER (rd X W) (kcell (c, k)) 0)
    ∗ (bigSep Finset.univ fun k : Option Sems21 => iprop(atPos ER (kcell (c, k)) 0 ∅ 0 ∗ reached ER (kcell (c, k)) 0)) ∗ minted c)

theorem fund_all : BI.own (ER (initOf allCells allToks)) ⊢ (|==> bigSep Finset.univ (given X W) : sProp 𝕄) := by
  have hX (Φ : GSem nD τ sig → sProp 𝕄) : bigSep allCells Φ = bigSep Finset.univ fun c : Dev nD => bigSep Finset.univ fun k : Option Sems21 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod]
    exact bigSep_congr fun c _ => by unfold minted; rw [bigSep_univ_sum, bigSep_sides]; rfl
  iintro HX
  imod (Rounds.fund ER (rd X W) allCells allToks) $$ HX with ⟨Hst, Hr, Hat, Htok⟩
  imodintro
  ihave Hst' := (Entails.of_eq (hX fun g => roundState ER (rd X W) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold given; simp only [bigSep_sep']
  isplitl [Hst']; · iexact Hst'
  isplitl [Hat' Hr']
  · isplitl [Hat'] <;> iassumption
  iexact Htok'

set_option maxRecDepth 20000 in
theorem ownSemFacts : Pipeline.OwnSemFacts cfg0.spec osem := by decide +kernel

/-- The transfers' semaphores are the kernel's own; -/
theorem ownSems_eq (c : Dev nD) : (Pipeline.ownSems0 (Ix := Unit) (Name := ℕ) (U := UU) (Lvl := ℕ) (Val := Elt F) (τ := τ) osem c : sProp 𝕄)
    = bigSep Finset.univ fun k : Sems21 => semVal (kcell (c, some k)) 0 := rfl
/-- the barrier semaphore is the one semaphore outside the kernel. -/
theorem unscopedSems_eq (c : Dev nD) : (unscopedSems0 c : sProp 𝕄) = semVal (barCell c) 0 := by
  unfold unscopedSems0; rw [bigSep_eq_bigSepL_of_eq [SemLoc.reg barS] (by decide) (by decide)]; rfl

/-- One device's cells, their invariants set up. -/
theorem core_alloc (c : Dev nD) :
    iprop(Pipeline.ownSems0 (Ix := Unit) (Name := ℕ) (U := UU) (Lvl := ℕ) (Val := Elt F) (τ := τ) osem c ∗ unscopedSems0 c ∗ given X W c)
      ⊢ |={Set.univ}=> iprop((bigSep Finset.univ fun k => iprop(∃ κ : ℕ, cellInv ER (rd X W) κ (kcell (c, k))))
          ∗ (bigSep Finset.univ fun k => iprop(atPos ER (kcell (c, k)) 0 ∅ 0 ∗ reached ER (kcell (c, k)) 0)) ∗ minted c) := by
  unfold given
  rw [ownSems_eq, unscopedSems_eq]
  iintro ⟨Hos, Hus, Hst, Hat, Htok⟩
  imod (show iprop((bigSep Finset.univ fun k : Option Sems21 => semVal (kcell (c, k)) 0) ∗ bigSep Finset.univ fun k : Option Sems21 => roundState ER (rd X W) (kcell (c, k)) 0)
      ⊢ (|={Set.univ}=> bigSep Finset.univ fun k => iprop(∃ κ : ℕ, cellInv ER (rd X W) κ (kcell (c, k))) : sProp 𝕄) from by
        rw [← bigSep_sep']
        exact (bigSep_mono fun k _ => (Rounds.body_intro ER (rd X W) (kcell (c, k))).trans inv_alloc).trans (bigSep_fupd _ _)) $$ [Hos Hus Hst] with Hinv
  · isplitr [Hst]
    · rw [bigSep_option]
      isplitl [Hus]; · iexact Hus
      iexact Hos
    iexact Hst
  imodintro
  isplitl [Hinv]; · iexact Hinv
  isplitl [Hat]; · iexact Hat
  iexact Htok

/-- What a device holds when the rounds start: its places and the tokens it pays with. -/
def held (c : Dev nD) : sProp 𝕄 := iprop((bigSep Finset.univ fun k : Option Sems21 => atPos ER (kcell (c, k)) 0 ∅ 0) ∗ dealt c)
/-- The same, with the records at some names. -/
def ready (c : Dev nD) : sProp 𝕄 := iprop(∃ K, records X W K ∗ held c)

theorem ready_intro (K : Dev nD × Option Sems21 → ℕ) (c : Dev nD) : iprop(records X W K ∗ held c) ⊢ ready X W c := by
  unfold ready; iintro H; iexists K; iexact H

/-- Facts known for good, beside each conjunct. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd X W) κ (kcell (c, k))))
          ∗ (bigSep Finset.univ fun k => iprop(atPos ER (kcell (c, k)) 0 ∅ 0 ∗ reached ER (kcell (c, k)) 0)) ∗ minted c) : sProp 𝕄)
      ⊢ bigSep Finset.univ (ready X W) := by
  rw [bigSep_sep', bigSep_sep', deal, ← bigSep_univ_prod (fun ck : Dev nD × Option Sems21 => iprop(∃ κ : ℕ, cellInv ER (rd X W) κ (kcell ck))),
    bigSep_congr (s := Finset.univ) (fun (c : Dev nD) _ => bigSep_sep' Finset.univ (fun k : Option Sems21 => (atPos ER (kcell (c, k)) 0 ∅ 0 : sProp 𝕄)) (fun k => reached ER (kcell (c, k)) 0)),
    bigSep_sep', ← bigSep_univ_prod (fun ck : Dev nD × Option Sems21 => (reached ER (kcell ck) 0 : sProp 𝕄))]
  iintro ⟨HI, ⟨Hat, #HR⟩, Htok⟩
  ihave HK := (BI.bigSep_exists_pi Finset.univ (fun (ck : Dev nD × Option Sems21) (κ : ℕ) => (cellInv ER (rd X W) κ (kcell ck) : sProp 𝕄))) $$ HI
  icases HK with ⟨%K, #HI⟩
  iapply (bigSep_beside (R := records X W K) fun c _ => ready_intro X W K c)
  isplitr
  · unfold records; isplitl; · iexact HI
    iexact HR
  · unfold held; rw [bigSep_sep']
    isplitl [Hat]; · iexact Hat
    iexact Htok

/-- All devices' cells are set up together. -/
theorem setup : (bigSep Finset.univ fun c => iprop(Pipeline.ownSems0 (Ix := Unit) (Name := ℕ) (U := UU) (Lvl := ℕ) (Val := Elt F) (τ := τ) osem c ∗ unscopedSems0 c ∗ given X W c) : sProp 𝕄)
    ⊢ |={Set.univ}=> bigSep Finset.univ (ready X W) :=
  ((bigSep_mono fun c _ => core_alloc X W c).trans (bigSep_fupd _ _)).trans (BI.fupd_mono (regroup X W))

/-! ## The credit a device starts with -/

theorem bar_eq_iff {a b : Dev nD} : barCell a = barCell b ↔ a = b :=
  ⟨fun h => congrArg (fun g : GSem nD τ sig => g.1.1) h, fun h => h ▸ rfl⟩
theorem recv_eq_iff {x y : Fin 3 × Fin 7} {a b : Dev nD} : recvCell x.1 x.2 a = recvCell y.1 y.2 b ↔ x = y ∧ a = b := by
  constructor
  · intro h
    have h' := @kcell_injective (a, some (true, x)) (b, some (true, y)) h
    exact ⟨congrArg Prod.snd (Option.some.inj (congrArg Prod.snd h')), congrArg Prod.fst h'⟩
  · rintro ⟨rfl, rfl⟩; rfl
theorem recv_ne_bar (x : Fin 3 × Fin 7) (a b : Dev nD) : recvCell x.1 x.2 a ≠ barCell b := fun h => by
  have := congrArg (fun g : GSem nD τ sig => g.2) h; cases this

/-- What device `d` owes on a receive cell for a list of transfers. -/
theorem debt_recv (l : List (Fin 3 × Fin 7)) (hl : l.Nodup) (d c : Dev nD) (x : Fin 3 × Fin 7) :
    debt l d (recvCell x.1 x.2 c) () = if x ∈ l ∧ d = peer x.1 x.2 c then cr x.1 else 0 := by
  induction l with
  | nil => exact (if_neg fun h => List.not_mem_nil h.1).symm
  | cons y l ih =>
    rw [debt_cons, Pi.add_apply, Finsupp.add_apply, ih (List.nodup_cons.mp hl).2, tallyAt_apply]
    have hy := (List.nodup_cons.mp hl).1
    by_cases hxy : x = y
    · subst hxy
      rw [if_neg fun h => hy h.1, Nat.zero_add]
      by_cases hd : d = peer x.1 x.2 c
      · rw [if_pos ⟨recv_eq_iff.mpr ⟨rfl, by rw [hd, peer_peer]⟩, rfl⟩, if_pos ⟨List.mem_cons_self, hd⟩]
      · rw [if_neg fun h => hd (by rw [(recv_eq_iff.mp h.1).2, peer_peer]), if_neg fun h => hd h.2]
    · rw [if_neg (c := recvCell x.1 x.2 c = recvCell y.1 y.2 (peer y.1 y.2 d) ∧ () = ()) (fun h => hxy (recv_eq_iff.mp h.1).1), Nat.add_zero]
      simp only [List.mem_cons, hxy, false_or]

/-- No transfer owes on a barrier cell. -/
theorem debt_bar (l : List (Fin 3 × Fin 7)) (d c : Dev nD) : debt l d (barCell c) () = 0 := by
  by_contra h
  obtain ⟨x, -, hx⟩ := debt_pos (Nat.pos_of_ne_zero h)
  exact recv_ne_bar x _ _ hx.symm

theorem owed_bar (d c : Dev nD) : O₀ d (barCell c) () = (if d = flip 2 c then 1 else 0) + (if d = flip 1 c then 1 else 0) + (if d = flip 0 c then 1 else 0) := by
  have h (e : Fin 3) : (tallyAt (barCell (flip e d)) () 1 : CellTallies nD τ sig Unit) (barCell c) () = if d = flip e c then 1 else 0 := by
    rw [tallyAt_apply]
    by_cases he : d = flip e c
    · rw [if_pos ⟨by rw [he, flip_flip], rfl⟩, if_pos he]
    · rw [if_neg fun h => he (by rw [bar_eq_iff.mp h.1, flip_flip]), if_neg he]
  unfold O₀
  rw [Pi.add_apply, Finsupp.add_apply, Pi.add_apply, Finsupp.add_apply, Pi.add_apply, Finsupp.add_apply, debt_bar, Nat.zero_add, h, h, h]

theorem owed_recv (d c : Dev nD) (x : Fin 3 × Fin 7) : O₀ d (recvCell x.1 x.2 c) () = if d = peer x.1 x.2 c then cr x.1 else 0 := by
  have hx : x ∈ order := by revert x; decide
  unfold O₀
  rw [Pi.add_apply, Finsupp.add_apply, Pi.add_apply, Finsupp.add_apply, Pi.add_apply, Finsupp.add_apply, debt_recv _ (by decide),
    tallyAt_ne_cell (recv_ne_bar x _ _), tallyAt_ne_cell (recv_ne_bar x _ _), tallyAt_ne_cell (recv_ne_bar x _ _)]
  simp only [hx, true_and, Finsupp.zero_apply, Nat.add_zero]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (flip 2 c) fun _ => 1, Finset.sum_ite_eq' Finset.univ (flip 1 c) fun _ => 1, Finset.sum_ite_eq' Finset.univ (flip 0 c) fun _ => 1,
    if_pos (Finset.mem_univ _), if_pos (Finset.mem_univ _), if_pos (Finset.mem_univ _)]

theorem launch_recv (c : Dev nD) (x : Fin 3 × Fin 7) :
    tallyOn (recvCell x.1 x.2 c) (launchCredit (Pipeline.owing O₀) 0 (recvCell x.1 x.2 c)) = (tallyAt (recvCell x.1 x.2 c) () (cr x.1) : CellTallies nD τ sig Unit) := by
  unfold tallyAt; refine congrArg _ (Finsupp.ext fun u => ?_); cases u
  rw [Pipeline.launchCredit_owing, Finsupp.single_eq_same, Finset.sum_congr rfl fun d _ => owed_recv d c x,
    Finset.sum_ite_eq' Finset.univ (peer x.1 x.2 c) fun _ => cr x.1, if_pos (Finset.mem_univ _)]

/-- A device's credit: three units of its barrier and one slot of each receive cell. -/
def credit (c : Dev nD) : sProp 𝕄 :=
  iprop(cred (tallyAt (barCell c) () 3) ∗ bigSep Finset.univ fun x : Fin 3 × Fin 7 => cred (tallyAt (recvCell x.1 x.2 c) () (cr x.1)))

/-- The cells a device has credit for. -/
def credSem (k : Option (Fin 3 × Fin 7)) : SemLoc sig := csem (k.map fun x => (true, x))
theorem credSem_injective : Function.Injective credSem := fun a b h =>
  Option.map_injective (fun x y h => congrArg Prod.snd h) (csem_injective h)

theorem credits (c : Dev nD) : (Pipeline.launchCred O₀ c : sProp 𝕄) ⊢ credit c := by
  unfold Pipeline.launchCred credit
  refine (bigSep_subset (Finset.subset_univ (Finset.univ.map ⟨credSem, credSem_injective⟩))).trans ?_
  rw [bigSep_map, bigSep_option]
  simp only [← launch_bar, ← launch_recv]
  exact Entails.refl _

/-! ## The end -/

variable (K : Dev nD × Option Sems21 → ℕ)

/-- Any of a device's cells, its round over, can be closed: its counter is zero. -/
theorem close_one (c : Dev nD) (k : Option Sems21) : iprop(records X W K ∗ atPos ER (kcell (c, k)) 1 ∅ 0)
    ⊢ (|={Set.univ}=> semVal (kcell (c, k)) 0 : sProp 𝕄) := by
  unfold records
  iintro ⟨⟨HI, -⟩, Hat⟩
  iapply (Rounds.cell_close ER (rd X W) (κ := K (c, k)) (Set.mem_univ _) (fun h => h) (R := 1) (duties_later X W (kcell (c, k))))
  isplitl [HI]
  · iapply (show (bigSep Finset.univ fun ck : Dev nD × Option Sems21 => (cellInv ER (rd X W) (K ck) (kcell ck) : sProp 𝕄))
      ⊢ cellInv ER (rd X W) (K (c, k)) (kcell (c, k)) from bigSep_elim (Finset.mem_univ (c, k)))
    iexact HI
  iexact Hat

/-- All of a device's cells are closed. -/
theorem close_all (c : Dev nD) :
    iprop(records X W K ∗ bigSep Finset.univ fun k : Option Sems21 => atPos ER (kcell (c, k)) 1 ∅ 0)
      ⊢ (|={Set.univ}=> bigSep Finset.univ fun k : Option Sems21 => semVal (kcell (c, k)) 0 : sProp 𝕄) :=
  (bigSep_beside fun k _ => close_one X W K c k).trans (bigSep_fupd _ _)

end Cert.Reduce

end
-- ==== Proof.Launch.lean ====
/-
# The run

From any launch memory the kernel runs to its end on all devices; then each device's result array holds `outAt`, the
arguments are as they were, and every semaphore counter is zero.
-/
module

public import proofs.«01_k».proof.Proof.Ghost
public import Idealize.ShloMosaic.Lib.Pipeline.CollectiveSegs

@[expose] public section

noncomputable section

namespace Cert.Reduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## From the launch to the first step, and from the last step to the end -/

section Ends

variable (X : Dev nD → Vec F S2048x256 .f32) (W : Dev nD → Vec F S256x2048 .f32)
variable (K : Dev nD × Option Sems21 → ℕ) (c : Dev nD)

/-- What device `c` holds before its body, besides its buffers. -/
def start : sProp 𝕄 := iprop(ready X W c ∗ credit c ∗ levAts Lv lv)
/-- The same with the scratch buffers. -/
def Φ₀ : sProp 𝕄 := iprop(start X W c ∗ scratch (F := F) c)
/-- What device `c` holds after its body: the scratch buffers, and every semaphore at zero. -/
def Φ₁ : sProp 𝕄 := iprop(scratch (F := F) c ∗ bigSep Finset.univ fun k : Option Sems21 => semVal (kcell (c, k)) 0)

/-- The pieces are what the first step needs. -/
theorem before_intro :
    iprop((held c ∗ credit c ∗ scratch (F := F) c) ∗ (∃ V, owes (c : Thread nD τ) (O₀ c) V)
        ∗ owns (c : Thread nD τ) xM fullShare (X c) ∗ owns (c : Thread nD τ) wM fullShare (W c) ∗ ∃ v, owns (c : Thread nD τ) oM fullShare v)
      ⊢ before X W c := by
  unfold held credit dealt before atDoor inputs toks due
  rw [bigSep_option, bigSep_sides, bigSep_sep', bigSep_sep', bigSep_sep']
  iintro ⟨⟨⟨⟨HaB, HaS, HaR⟩, HtB, HtS, HtR⟩, ⟨HcB, HcR⟩, Hscr⟩, Ho, Hx, Hw, Hout⟩
  ihave Hs := (scratch_slots (F := F) c) $$ Hscr
  icases Hs with ⟨Hacc, Hrcv⟩
  ihave Hlend := (Entails.of_eq (lend_own (F := F) c).symm) $$ Hrcv
  ihave Hp := (out_parts (F := F) c) $$ Hout
  isplitl [HaB HcB HtB Hlend Ho]
  · isplitr [Ho]
    · isplitl [HaB]; · iexact HaB
      isplitl [HcB]; · iexact HcB
      isplitl [HtB]; · iexact HtB
      iexact Hlend
    iexact Ho
  isplitl [Hx Hw]
  · isplitl [Hx]; · iexact Hx
    iexact Hw
  isplitl [Hp]; · iexact Hp
  isplitl [HaS HtS HtR]
  · isplitl [HtS]; · iexact HtS
    isplitl [HtR]; · iexact HtR
    iexact HaS
  isplitl [HaR HcR]
  · isplitl [HaR]; · iexact HaR
    iexact HcR
  iexact Hacc

/-- Landing slots with known contents are landing slots. -/
theorem rcv_any : (bigSep Finset.univ fun x : Fin 3 × Fin 7 => rcvAt x.1 (dstSlot x.2) c (L X W x.1 x.2 c))
    ⊢ (bigSep Finset.univ fun x : Fin 3 × Fin 7 => iprop(∃ v, rcvAt (F := F) x.1 (dstSlot x.2) c v) : sProp 𝕄) :=
  bigSep_mono fun x _ => owns_any (F := F) c (rcvSlot x.1 (dstSlot x.2)) _

/-- After the last step the cells are closed and the buffers are whole again. -/
theorem after_elim :
    iprop(records X W K ∗ after X W c)
      ⊢ (|={Set.univ}=> iprop(Φ₁ (F := F) c ∗ (∃ V, owes (c : Thread nD τ) 0 V)
        ∗ owns (c : Thread nD τ) xM fullShare (X c) ∗ owns (c : Thread nD τ) wM fullShare (W c) ∗ owns (c : Thread nD τ) oM fullShare (outAt X W c)) : sProp 𝕄) := by
  unfold after owing inputs gone come
  iintro ⟨HK, ⟨HaB, Ho⟩, ⟨Hx, Hw⟩, Hp, HaS, HaR, Hrcv, Hacc⟩
  imod (close_all X W K c) $$ [HK HaB HaS HaR] with Hz
  · isplitl [HK]; · iexact HK
    rw [bigSep_option, bigSep_sides]
    isplitl [HaB]; · iexact HaB
    isplitl [HaS]; · iexact HaS
    iexact HaR
  imodintro
  ihave Hr := (rcv_any X W c) $$ Hrcv
  unfold Φ₁
  isplitl [Hz Hr Hacc]
  · isplitl [Hr Hacc]
    · iapply (slots_scratch (F := F) c)
      isplitl [Hacc]; · iexact Hacc
      iexact Hr
    iexact Hz
  isplitl [Ho]
  · rw [order_drop_all]; iexact Ho
  isplitl [Hx]; · iexact Hx
  isplitl [Hw]; · iexact Hw
  iapply (parts_out X W c); iexact Hp

/-- The body, from what the launch leaves to what it takes back. -/
theorem body_run :
    iprop(Φ₀ X W c ∗ (∃ V, owes (c : Thread nD τ) (O₀ c) V)
        ∗ owns (c : Thread nD τ) xM fullShare (X c) ∗ owns (c : Thread nD τ) wM fullShare (W c) ∗ ∃ v, owns (c : Thread nD τ) oM fullShare v)
      ⊢ wp frame (wpE (defs₀ (F := F)) 𝒱₀ (c : Thread nD τ) none) Set.univ (body (F := F))
          (fun _ => iprop(Φ₁ (F := F) c ∗ (∃ V, owes (c : Thread nD τ) 0 V)
            ∗ owns (c : Thread nD τ) xM fullShare (X c) ∗ owns (c : Thread nD τ) wM fullShare (W c) ∗ owns (c : Thread nD τ) oM fullShare (outAt X W c))) := by
  unfold body
  simp only [Prog.lift, Prog.bind_op, Prog.bind_ret, wp_deviceId]
  unfold Φ₀ start ready
  iintro ⟨⟨⟨⟨%K, #HK, Hh⟩, Hc, #Hlev⟩, Hscr⟩, Hrest⟩
  ihave HB := (before_intro X W c) $$ [Hh Hc Hscr Hrest]
  · isplitl [Hh Hc Hscr]
    · isplitl [Hh]; · iexact Hh
      isplitl [Hc]; · iexact Hc
      iexact Hscr
    iexact Hrest
  ihave HW := (steps_tr X W K c).use $$ [HB]
  · isplitr
    · unfold Known; isplitr; · iexact HK
      iexact Hlev
    iexact HB
  iapply (wp_fupd frame (wpE (defs₀ (F := F)) 𝒱₀ (c : Thread nD τ) none) Set.univ)
  iapply (wp_wand frame (wpE (defs₀ (F := F)) 𝒱₀ (c : Thread nD τ) none) Set.univ) $$ HW
  iintro %u H
  iapply (after_elim X W K c)
  isplitr; · iexact HK
  iexact H

end Ends

/-! ## The proof data of the launch -/

variable (m : (ℓ : Loc nD τ sig) → Buf (Elt F) ℓ) (ρ : Dev nD → PrngReg)

/-- Device `c`'s columns of `x`. -/
def xIn (c : Dev nD) : Vec F S2048x256 .f32 := (win0_0.blk t0_0).view.read (Elt F) (m ((c : Thread nD τ).loc main_arg0))
/-- Device `c`'s rows of `w`. -/
def wIn (c : Dev nD) : Vec F S256x2048 .f32 := (win0_1.blk t0_0).view.read (Elt F) (m ((c : Thread nD τ).loc main_arg1))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => wIn m c
    | ⟨2, _⟩ => outAt (xIn m) (wIn m) c
  Φ t := match t with
    | ⟨0, _⟩ => Φ₀ (xIn m) (wIn m) c
    | ⟨_ + 1, _⟩ => Φ₁ c
  q _ := fullShare
  owed t := match t with
    | ⟨0, _⟩ => O₀ c
    | ⟨_ + 1, _⟩ => 0

/-- What the pipeline hands the body. -/
def bodyPre (c : Dev nD) : sProp 𝕄 :=
  iprop(Φ₀ (xIn m) (wIn m) c ∗ (dats m ρ 0 c).owesAt () t0_0.castSucc
    ∗ (∃ d, owns (c : Thread nD τ) xM fullShare ((dats m ρ 0 c).before (0 : Fin 3) t0_0 d))
    ∗ (∃ d, owns (c : Thread nD τ) wM fullShare ((dats m ρ 0 c).before (1 : Fin 3) t0_0 d))
    ∗ (∃ d, owns (c : Thread nD τ) oM fullShare ((dats m ρ 0 c).before (2 : Fin 3) t0_0 d)))
/-- What it takes back. -/
def bodyPost (c : Dev nD) : sProp 𝕄 :=
  iprop(Φ₁ c ∗ (dats m ρ 0 c).owesAt () t0_0.succ
    ∗ owns (c : Thread nD τ) xM fullShare (xIn m c) ∗ owns (c : Thread nD τ) wM fullShare (wIn m c) ∗ owns (c : Thread nD τ) oM fullShare (outAt (xIn m) (wIn m) c))

theorem before_x (c : Dev nD) (d) : (dats m ρ 0 c).before (0 : Fin 3) t0_0 d = xIn m c := by
  unfold Dat.before; rw [if_pos (fetch0_0 t0_0)]; rfl
theorem before_w (c : Dev nD) (d) : (dats m ρ 0 c).before (1 : Fin 3) t0_0 d = wIn m c := by
  unfold Dat.before; rw [if_pos (fetch0_1 t0_0)]; rfl

theorem owes_in (c : Dev nD) : (dats m ρ 0 c).owesAt () t0_0.castSucc ⊢ (iprop(∃ V, owes (c : Thread nD τ) (O₀ c) V) : sProp 𝕄) := by
  unfold Dat.owesAt Pipeline.owesWithin
  rw [show (dats m ρ 0 c).owed t0_0.castSucc = O₀ c from rfl]
  iintro ⟨%V, -, H⟩
  iexists V; iexact H
theorem owes_out (c : Dev nD) : (iprop(∃ V, owes (c : Thread nD τ) 0 V) : sProp 𝕄) ⊢ (dats m ρ 0 c).owesAt () t0_0.succ := by
  unfold Dat.owesAt Pipeline.owesWithin
  rw [show (dats m ρ 0 c).owed t0_0.succ = 0 from rfl]
  iintro ⟨%V, H⟩
  iexists V
  isplitr; · ipureintro; exact fun _ _ => Or.inl trivial
  iexact H

theorem body_sound (c : Dev nD) : bodyPre m ρ c
    ⊢ wp frame (wpE (defs₀ (F := F)) 𝒱₀ (c : Thread nD τ) none) Set.univ (body (F := F)) (fun _ => bodyPost m ρ c) := by
  unfold bodyPre
  simp only [before_x, before_w]
  iintro ⟨HΦ, Ho, ⟨%d0, Hx⟩, ⟨%d1, Hw⟩, ⟨%d2, Hout⟩⟩
  ihave Ho := (owes_in m ρ c) $$ Ho
  ihave HW := (body_run (xIn m) (wIn m) c) $$ [HΦ Ho Hx Hw Hout]
  · isplitl [HΦ]; · iexact HΦ
    isplitl [Ho]; · iexact Ho
    isplitl [Hx]; · iexact Hx
    isplitl [Hw]; · iexact Hw
    iexists _; iexact Hout
  iapply (wp_wand frame (wpE (defs₀ (F := F)) 𝒱₀ (c : Thread nD τ) none) Set.univ) $$ HW
  iintro %u ⟨HΦ, Ho, Hr⟩
  unfold bodyPost
  isplitl [HΦ]; · iexact HΦ
  isplitl [Ho]
  · iapply (owes_out m ρ c); iexact Ho
  iexact Hr

set_option maxRecDepth 100000 in
/-- The body obligation on device `c`. -/
theorem body_obligation (c : Dev nD) : BodyObligation (dats (F := F) m ρ 0 c) (defs₀ (F := F)) 𝒱₀ () Set.univ := fun t => by
  rw [fin_N0 t]
  rw [bigSep_W0, bigSep_W0]
  show bodyPre m ρ c ⊢ wp frame (wpE (defs₀ (F := F)) 𝒱₀ c none) Set.univ (bodyAt0 (F := F) t0_0) (fun _ => bodyPost m ρ c)
  rw [body_eq]
  exact body_sound m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts Lv lv
        ∗ Pipeline.launchCred O₀ c ∗ prngReg c (ρ c) ∗ ready (xIn m) (wIn m) c)
      ⊢ |={Set.univ}=> iprop(start (xIn m) (wIn m) c ∗ emp) := by
  iintro ⟨-, Hlev, Hcr, -, HG⟩
  ihave Hc := (credits (F := F) c) $$ Hcr
  imodintro
  unfold start
  isplitl
  · isplitl [HG]; · iexact HG
    isplitl [Hc]; · iexact Hc
    iexact Hlev
  · iempintro

theorem enter (c : Dev nD) :
    iprop(start (xIn m) (wIn m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (xIn m) (wIn m) c from rfl]
  unfold Φ₀
  iintro ⟨Hs, -, Hr⟩
  isplitl [Hs]; · iexact Hs
  iapply (Entails.of_eq (scratch_eq (F := F) c)); iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ownSems_eq, unscopedSems_eq]
  unfold Φ₁
  rw [bigSep_option]
  iintro ⟨Hr, HzB, Hz⟩
  isplitl [HzB]; · iexact HzB
  isplitl [Hz]; · iexact Hz
  iapply (Entails.of_eq (scratch_eq (F := F) c).symm); iexact Hr

theorem waits (c : Dev nD) : (levAts Lv lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The contents of a window's array after the run. -/
def finalA (c : Dev nD) (w : Fin cfg0.W) : Buf (Elt F) ((cfg0.win w).arr.view.loc (c : Thread nD τ)) := (dats m ρ 0 c).arrAt w cfg0.N

/-- Every device's arrays hold what the run leaves. -/
def Done : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- For any float values, from any memory with all counters zero, every weakly fair run of the kernel on the eight
    devices ends, with the arrays as `Done` says and every counter zero. -/
theorem run_main : θ_run defs (onTc (τ := τ) (main (F := F))) (s₀ m ρ) (fun r => Done m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := Lv) (lv := lv) (hL := Lv_of_ne) (hwaits := waits m ρ)
    (G := given (xIn m) (wIn m)) (G' := ready (xIn m) (wIn m)) (u₀ := u₀)
    (hu₀ := by
      unfold u₀
      iintro Hu
      ihave H := (ownU_pair _ _) $$ Hu
      icases H with ⟨HP, HX⟩
      imod (fund_all (xIn m) (wIn m)) $$ HX with HG
      imodintro
      isplitl [HP] <;> iassumption)
    (hglob := setup (xIn m) (wIn m))
    (hA := fun _ _ => rfl) (hpf := fun _ k => k.elim0)
    (X := start (xIn m) (wIn m)) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The first argument is as it was. -/
theorem final_x (c : Dev nD) : finalA m ρ c (0 : Fin 3) = m ((c : Thread nD τ).loc main_arg0) :=
  (dats (F := F) m ρ 0 c).arrAt_in (0 : Fin 3) rfl _
/-- The second argument is as it was. -/
theorem final_w (c : Dev nD) : finalA m ρ c (1 : Fin 3) = m ((c : Thread nD τ).loc main_arg1) :=
  (dats (F := F) m ρ 0 c).arrAt_in (1 : Fin 3) rfl _

/-- Every run ends with the arguments as they were and every counter zero. -/
theorem quiescent : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (0 : Fin 3)).trans (final_x m ρ c), (h.1 c (1 : Fin 3)).trans (final_w m ρ c)⟩, h.2⟩) (run_main m ρ)

end Cert.Reduce

end
-- ==== Proof.Result.lean ====
/-
# What the result array holds

The run leaves each window's block of its array. Every window here is one block, the whole array, so the
arrays the kernel reads are the arguments and the array it writes is the body's result.
-/
module

public import proofs.«01_k».proof.Proof.Launch

@[expose] public section

noncomputable section

namespace Cert.Reduce

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The kernel reads all of its first argument. -/
theorem xIn_eq (c : Dev nD) : xIn m c = m ((c : Thread nD τ).loc main_arg0) :=
  Memref.read_access_unit_zero (Elt F) main_arg0
    (show (fun a => (win0_0.index t0_0) a * main_arg0.ty.shape.size a) = fun _ => 0 from funext fun a => by fin_cases a <;> decide)
    (fun a => by fin_cases a <;> decide) _
/-- The kernel reads all of its second argument. -/
theorem wIn_eq (c : Dev nD) : wIn m c = m ((c : Thread nD τ).loc main_arg1) :=
  Memref.read_access_unit_zero (Elt F) main_arg1
    (show (fun a => (win0_1.index t0_0) a * main_arg1.ty.shape.size a) = fun _ => 0 from funext fun a => by fin_cases a <;> decide)
    (fun a => by fin_cases a <;> decide) _

/-- The result array ends at the body's result. -/
theorem final_out (c : Dev nD) : finalA m ρ c (2 : Fin 3) = outAt (xIn m) (wIn m) c := by
  have h : ((cfg0.win (2 : Fin 3)).blk t0_0).view.read (Elt F) (finalA m ρ c (2 : Fin 3)) = (dats m ρ 0 c).flushed (2 : Fin 3) t0_0 := by
    unfold finalA
    rw [show cfg0.N = (t0_0 : Fin cfg0.N).val + 1 from rfl, (dats m ρ 0 c).arrAt_succ (2 : Fin 3) t0_0]
    rw [show (cfg0.win (2 : Fin 3)).flush t0_0 = true from by decide, if_pos rfl]
    exact View.read_write_univ _ _
  refine (Memref.read_access_unit_zero (Elt F) main_v1
    (show (fun a => (win0_2.index t0_0) a * main_v1.ty.shape.size a) = fun _ => 0 from funext fun a => by fin_cases a <;> decide)
    (fun a => by fin_cases a <;> decide) _).symm.trans (h.trans ?_)
  rfl

/-- Every run ends with the result array at the body's result and the arguments as they were. -/
theorem run_value : θ_run defs (onTc (τ := τ) (main (F := F))) ⟨m, fun _ => 0, ρ⟩ (fun r => ∀ c : Dev nD,
    r.2.mem ((c : Thread nD τ).loc main_v1) = outAt (xIn m) (wIn m) c
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h.1 c (2 : Fin 3)).trans (final_out m ρ c), (h.1 c (0 : Fin 3)).trans (final_x m ρ c),
    (h.1 c (1 : Fin 3)).trans (final_w m ρ c)⟩) (run_main m ρ)

end Cert.Reduce

end
-- ==== Proof.Sum.lean ====
/-
# The kernel's sums are the whole product

At the ideal values a slot of the accumulator is a product over the 256 contraction positions one device
holds. The three exchanges add, for every element of a device's result, the products of all eight devices,
each once. Eight times 256 positions are all 2048, so the sum is the element of the whole product.
-/
module

public import proofs.«01_k».proof.Proof.Pieces
public import Idealize.ShloMosaic.Lib.MatmulPlain
public import Idealize.ShloMosaic.Lib.StackMember
public import Idealize.ShloMosaic.Lib.Layout

@[expose] public section

noncomputable section

namespace Cert.Reduce

open Cert.KernelIdeal Cert.KernelIdeal.Gen
open Idealize.ShloMosaic Idealize.ShloMosaic.ValueIdx
open scoped BigOperators

/-- The whole arrays. -/
abbrev Whole : Shape := ⟨2, ![2048, 2048]⟩

/-! ## One device's share of an element -/

/-- Position `k` of block `d`, of the 2048 positions cut in eight blocks. -/
def pos (d : Fin 8) (k : Fin 256) : Fin 2048 := ⟨d.val * 256 + k.val, by have := d.isLt; have := k.isLt; omega⟩

/-- The share of device `d` in element `(i, j)` of the product of `x` and `w`. -/
def share (x w : Whole.Idx → EReal) (i j : Fin 2048) (d : Fin 8) : EReal :=
  ∑ k : Fin 256, x (ix2 i (pos d k)) * w (ix2 (pos d k) j)

/-- The eight shares are the element. -/
theorem sum_share (x w : Whole.Idx → EReal) (i j : Fin 2048) :
    ∑ d, share x w i j d = ∑ k : Fin 2048, x (ix2 i k) * w (ix2 k j) := by
  unfold share
  rw [← Fintype.sum_prod_type' (f := fun (d : Fin 8) (k : Fin 256) => x (ix2 i (pos d k)) * w (ix2 (pos d k) j)),
    ← Equiv.sum_comp (finProdFinEquiv (m := 8) (n := 256)) fun k : Fin 2048 => x (ix2 i k) * w (ix2 k j)]
  refine Finset.sum_congr rfl fun dk _ => ?_
  rw [show (finProdFinEquiv dk : Fin 2048) = pos dk.1 dk.2 from Fin.ext (by simp [finProdFinEquiv, pos]; omega)]

/-! ## The slots, as blocks of rows -/

/-- A slot without its leading axis. -/
abbrev rows (p : Fin 3) (v : Vec Ideal (slotSh p) .f32) : Vec Ideal (wSh p) .f32 := shapeCast (wSh p) v (casts_sw p)

theorem rows_add (p : Fin 3) (a b : Vec Ideal (slotSh p) .f32) (i : (wSh p).Idx) :
    rows p (addV p a b) i = rows p a i + rows p b i := by
  unfold rows addV
  rw [shapeCast_shapeCast]
  rfl

theorem dotP_plain : ∀ p : Fin 3, dotP p = DotDims.plain 256 256 (cols p)
  | 0 => rfl
  | 1 => rfl
  | 2 => rfl

theorem rows_prod (p : Fin 3) (a : Vec Ideal S256x256 .f32) (b : Vec Ideal (wSh p) .f32) (r : Fin 256) (l : Fin (cols p)) :
    rows p (prodV p a b) (ix2 r l) = ∑ k : Fin 256, a (ix2 r k) * b (ix2 k l) := by
  unfold rows prodV
  rw [shapeCast_shapeCast, shapeCast_self, shapeCast_self, dotP_plain]
  refine (Ideal.matmul_plain_apply none a b _ r l).trans ?_
  rw [show constant (F := Ideal) (wSh p) .f32 0x00000000#32 (ix2 r l) = 0 from Ideal.ofBits_zero_f32, zero_add]

/-- Column `l` of part `p`, among all columns. -/
def colOf (p : Fin 3) (l : Fin (cols p)) : Fin 2048 :=
  ⟨off p + l.val, by
    have h : off p + cols p ≤ 2048 := by revert p; decide
    have := l.isLt; omega⟩

section Parts
variable {x w : Whole.Idx → EReal} {X : Dev nD → Vec Ideal S2048x256 .f32} {W : Dev nD → Vec Ideal S256x2048 .f32}

/-- What each device holds of the whole arrays: its columns of `x` and its rows of `w`. -/
def Held (x w : Whole.Idx → EReal) (X : Dev nD → Vec Ideal S2048x256 .f32) (W : Dev nD → Vec Ideal S256x2048 .f32) : Prop :=
  ∀ c : Dev nD, X c = Layout.block S2048x256 Whole 1 8 c x ∧ W c = Layout.block S256x2048 Whole 0 8 c w

/-- A product, about row block `q`, is its device's share. -/
theorem rows_G (h : Held x w X W) {p : Fin 3} {t : Fin 8} {c q : Dev nD} (hq : chunk p t c = q) (r : Fin 256) (l : Fin (cols p)) :
    rows p (G X W p t c) (ix2 r l) = share x w (pos q r) (colOf p l) c := by
  unfold G
  rw [rows_prod]
  refine Finset.sum_congr rfl fun k _ => ?_
  have hx : readX X p t c (ix2 r k) = x (ix2 (pos q r) (pos c k)) := by
    unfold readX
    rw [(h c).1, Layout.block_apply]
    refine congrArg x (Shape.idx_ext₂ ?_ ?_)
    · show xoff p t c 0 + 1 * r.val = q.val * 256 + r.val
      rw [xoff_eq, hq]
      show 256 * q.val + 1 * r.val = _
      omega
    · show c.val * 256 + (xoff p t c 1 + 1 * k.val) = c.val * 256 + k.val
      rw [xoff_eq]
      show c.val * 256 + (0 + 1 * k.val) = _
      omega
  have hw : readW W p c (ix2 k l) = w (ix2 (pos c k) (colOf p l)) := by
    unfold readW
    rw [(h c).2, Layout.block_apply]
    refine congrArg w (Shape.idx_ext₂ ?_ ?_)
    · show c.val * 256 + (0 + 1 * k.val) = c.val * 256 + k.val
      omega
    · show off p + 1 * l.val = off p + l.val
      omega
  rw [hx, hw]

/-- The first exchange adds the peer's share. -/
theorem rows_A1 (h : Held x w X W) {p : Fin 3} {t : Fin 8} {j : Fin 7} {c q : Dev nD} (hq : chunk p t c = q)
    (hj : chunk p (srcSlot j) (peer p j c) = q) (r : Fin 256) (l : Fin (cols p)) :
    rows p (A1 X W p t j c) (ix2 r l)
      = share x w (pos q r) (colOf p l) c + share x w (pos q r) (colOf p l) (peer p j c) := by
  unfold A1
  rw [rows_add, rows_G h hq, rows_G h hj]

/-- The eight devices whose shares device `c` adds, in the order it adds them. -/
def giver (p : Fin 3) (c : Dev nD) : Fin 8 → Fin 8 :=
  ![c, peer p 3 c, peer p 5 c, peer p 1 (peer p 5 c),
    peer p 6 c, peer p 2 (peer p 6 c), peer p 4 (peer p 6 c), peer p 0 (peer p 4 (peer p 6 c))]

set_option maxRecDepth 20000 in
/-- They are all eight. -/
theorem giver_bij (p : Fin 3) (c : Dev nD) : Function.Bijective (giver p c) := by revert p c; decide +kernel

set_option maxRecDepth 20000 in
/-- All eight products are about row block `c`. -/
theorem chunks (p : Fin 3) (c : Dev nD) :
    chunk p 0 c = c ∧ chunk p (srcSlot 3) (peer p 3 c) = c
      ∧ chunk p 2 (peer p 5 c) = c ∧ chunk p (srcSlot 1) (peer p 1 (peer p 5 c)) = c
      ∧ chunk p 1 (peer p 6 c) = c ∧ chunk p (srcSlot 2) (peer p 2 (peer p 6 c)) = c
      ∧ chunk p 3 (peer p 4 (peer p 6 c)) = c ∧ chunk p (srcSlot 0) (peer p 0 (peer p 4 (peer p 6 c))) = c := by
  revert p c; decide +kernel

/-- A part of a device's result is that part of its rows of the product, or zero where that is larger. -/
theorem outP_apply (h : Held x w X W) (p : Fin 3) (c : Dev nD) (r : Fin 256) (l : Fin (cols p)) :
    outP X W p c (ix2 r l) = max (∑ k : Fin 2048, x (ix2 (pos c r) k) * w (ix2 k (colOf p l))) 0 := by
  obtain ⟨h0, h1, h2, h3, h4, h5, h6, h7⟩ := chunks p c
  have hsum : rows p (B0 X W p c) (ix2 r l) + rows p (B1 X W p (peer p 6 c)) (ix2 r l)
      = ∑ d, share x w (pos c r) (colOf p l) d := by
    rw [← (giver_bij p c).sum_comp, Fin.sum_univ_eight]
    unfold B0 B1
    rw [rows_add, rows_add, rows_A1 h h0 h1, rows_A1 h h2 h3, rows_A1 h h4 h5, rows_A1 h h6 h7]
    simp only [add_assoc]
    rfl
  show max (rows p (B0 X W p c) (ix2 r l) + rows p (B1 X W p (peer p 6 c)) (ix2 r l)) (Ideal.ofBits .f32 0x00000000#32) = _
  rw [hsum, sum_share, Ideal.ofBits_zero_f32]

/-- The whole result: the product, or zero where that is larger. -/
def product (x w : Whole.Idx → EReal) : Whole.Idx → EReal := fun i =>
  max (∑ k : Fin 2048, x (ix2 (i 0) k) * w (ix2 k (i 1))) 0

/-- A device's result is its rows of the whole result. -/
theorem outAt_block (h : Held x w X W) (c : Dev nD) : outAt X W c = Layout.block S256x2048 Whole 0 8 c (product x w) := by
  refine Rect.ext_of_cover partRect part_cover fun p y => ?_
  rw [outAt_part]
  obtain ⟨r, l, rfl⟩ : ∃ (r : Fin 256) (l : Fin (cols p)), y = ix2 r l := ⟨y 0, y 1, eq_ix2 y⟩
  rw [outP_apply h, Layout.block_apply]
  have e0 : pos c r = (Layout.Tiles.idx (S := S256x2048) (T := Whole) (a := 0) (k := 8) (by decide) c ((partRect p).emb (ix2 r l))) 0 := by
    refine Fin.ext ?_
    show c.val * 256 + r.val = c.val * 256 + (0 + 1 * r.val)
    omega
  have e1 : colOf p l = (Layout.Tiles.idx (S := S256x2048) (T := Whole) (a := 0) (k := 8) (by decide) c ((partRect p).emb (ix2 r l))) 1 := by
    refine Fin.ext ?_
    show off p + l.val = off p + 1 * l.val
    omega
  unfold product
  rw [e0, e1]

end Parts

end Cert.Reduce

end
-- ==== Proof.lean ====
/-
# The certificate's claims

The kernel's run is proved once, for any float values (`Proof/Launch.lean`). Here it is read at the bit
patterns and at the ideal values for the two frames, and at the ideal values its result is compared with the
reference's, whose run is generated.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import proofs.«01_k».proof.Proof.Sum
public import Idealize.ShloMosaic.Adequacy
public import Idealize.ShloMosaic.Init

@[expose] public section

noncomputable section

namespace Cert.Proof

open Idealize.ShloMosaic Idealize.ShloMosaic.ValueIdx Idealize.SL.Sem Cert.Reduce

section Same
variable {F : FTy → Type} [FloatOps F]

/-- The two kernels have the same text: their bodies are the same program. -/
theorem bodies_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl

theorem defs_eq : Cert.Kernel.defs (F := F) = Cert.KernelIdeal.defs (F := F) := by
  unfold Cert.Kernel.defs
  rw [bodies_eq]
  rfl

end Same

/-- The kernel, as printed, leaves its arguments and its counters as they were. -/
theorem frame_kernel : Cert.quiescent_Kernel := fun m ρ _ => by
  rw [defs_eq]
  exact quiescent (F := Bits) m ρ

/-- So does the kernel at the ideal values. -/
theorem frame_kernelIdeal : Cert.quiescent_KernelIdeal := fun m ρ _ => quiescent (F := Ideal) m ρ

/-- So does the reference, which has no counter. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result is the product, or zero where that is larger. -/
theorem reference_eq (x w : FVec Ideal Whole .f32) :
    maximumf (Host.dotGeneral Cert.ReferenceIdeal.dot_S2048x2048_S2048x2048_S2048x2048_1_0_0_1_n_n none x w)
      (broadcastInDim Cert.ReferenceIdeal.S2048x2048 ![] Cert.ReferenceIdeal.Facts₀.bcast_S_S2048x2048
        (constant Cert.ReferenceIdeal.S_ .f32 0x00000000#32)) = product x w := by
  funext i
  obtain ⟨a, b, rfl⟩ : ∃ a b : Fin 2048, i = ix2 a b := ⟨i 0, i 1, eq_ix2 i⟩
  exact congrArg₂ max (StackMember.dotGeneral_plain_apply none x w a b) Ideal.ofBits_zero_f32

/-- Each device's result is its block of the reference's result. -/
theorem algebraic : Cert.algebraic_KernelIdeal_ReferenceIdeal := by
  intro m ρ m' ρ' _ hin
  let x : Whole.Idx → EReal := m' (((0 : Dev Cert.ReferenceIdeal.nD).tc : Thread Cert.ReferenceIdeal.nD Cert.ReferenceIdeal.τ).loc Cert.ReferenceIdeal.main_arg0)
  let w : Whole.Idx → EReal := m' (((0 : Dev Cert.ReferenceIdeal.nD).tc : Thread Cert.ReferenceIdeal.nD Cert.ReferenceIdeal.τ).loc Cert.ReferenceIdeal.main_arg1)
  refine ⟨product x w, (θ_run Cert.KernelIdeal.defs _ _).mono (fun _ h c => ⟨(h c).1.trans ?_, (h c).2⟩)
      (run_value (F := Ideal) m ρ),
    (θ_run Cert.ReferenceIdeal.defs _ _).mono (fun _ h => ⟨(h 0).1.trans (reference_eq _ _), (h 0).2⟩)
      (Cert.ReferenceIdeal.Value.run (F := Ideal) m' ρ')⟩
  exact outAt_block (fun d => ⟨(xIn_eq m d).trans (hin d).1, (wIn_eq m d).trans (hin d).2⟩) c

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
